-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S4096x200 : Shape := ⟨2, ![4096, 200]⟩
abbrev S1000000x64 : Shape := ⟨2, ![1000000, 64]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S1000000x64 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 1000000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S1000000x64 : Shape := ⟨2, ![1000000, 64]⟩
abbrev S64x1000000 : Shape := ⟨2, ![64, 1000000]⟩
abbrev S1000000x128 : Shape := ⟨2, ![1000000, 128]⟩
abbrev S64x4096 : Shape := ⟨2, ![64, 4096]⟩
abbrev S4096x128 : Shape := ⟨2, ![4096, 128]⟩
abbrev S64x64 : Shape := ⟨2, ![64, 64]⟩
abbrev S4096x64 : Shape := ⟨2, ![4096, 64]⟩
abbrev S819200 : Shape := ⟨1, ![819200]⟩
abbrev S200x64 : Shape := ⟨2, ![200, 64]⟩
abbrev S12800 : Shape := ⟨1, ![12800]⟩
abbrev S819200x64 : Shape := ⟨2, ![819200, 64]⟩
abbrev S25600 : Shape := ⟨1, ![25600]⟩
abbrev S5x80x128 : Shape := ⟨3, ![5, 80, 128]⟩
abbrev S3x80x64 : Shape := ⟨3, ![3, 80, 64]⟩
abbrev S5 : Shape := ⟨1, ![5]⟩
abbrev S3 : Shape := ⟨1, ![3]⟩
abbrev S_ : Shape := ⟨0, ![]⟩
abbrev S1x80x128 : Shape := ⟨3, ![1, 80, 128]⟩
abbrev S80x128 : Shape := ⟨2, ![80, 128]⟩
abbrev S80 : Shape := ⟨1, ![80]⟩
abbrev S1 : Shape := ⟨1, ![1]⟩
abbrev S1x80x64 : Shape := ⟨3, ![1, 80, 64]⟩
abbrev S80x64 : Shape := ⟨2, ![80, 64]⟩
abbrev S16 : Shape := ⟨1, ![16]⟩
abbrev S1x1x16 : Shape := ⟨3, ![1, 1, 16]⟩
abbrev S4096x200x64 : Shape := ⟨3, ![4096, 200, 64]⟩

abbrev nBuf : Table → Nat
  | .hbm => 9
  | .local .tc .vmem => 5
  | .local .scVector .vmem => 4
  | _ => 0

abbrev bufTy : (tb : Table) → Fin (nBuf tb) → BufTy
  | .hbm, ⟨0, _⟩ => ⟨S4096x200, .i32⟩
  | .hbm, ⟨1, _⟩ => ⟨S1000000x64, .f32⟩
  | .hbm, ⟨2, _⟩ => ⟨S64x1000000, .f32⟩
  | .hbm, ⟨3, _⟩ => ⟨S1000000x128, .f32⟩
  | .hbm, ⟨4, _⟩ => ⟨S819200, .i32⟩
  | .hbm, ⟨5, _⟩ => ⟨S200x64, .f32⟩
  | .hbm, ⟨6, _⟩ => ⟨S12800, .f32⟩
  | .hbm, ⟨7, _⟩ => ⟨S819200x64, .f32⟩
  | .hbm, ⟨8, _⟩ => ⟨S4096x200x64, .f32⟩
  | .local .tc .vmem, ⟨0, _⟩ => ⟨S64x4096, .f32⟩
  | .local .tc .vmem, ⟨1, _⟩ => ⟨S64x4096, .f32⟩
  | .local .tc .vmem, ⟨2, _⟩ => ⟨S4096x128, .f32⟩
  | .local .tc .vmem, ⟨3, _⟩ => ⟨S4096x128, .f32⟩
  | .local .tc .vmem, ⟨4, _⟩ => ⟨S200x64, .f32⟩
  | .local .scVector .vmem, ⟨0, _⟩ => ⟨S25600, .i32⟩
  | .local .scVector .vmem, ⟨1, _⟩ => ⟨S12800, .f32⟩
  | .local .scVector .vmem, ⟨2, _⟩ => ⟨S5x80x128, .f32⟩
  | .local .scVector .vmem, ⟨3, _⟩ => ⟨S3x80x64, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v1_scv : Ref sig .scVector := ⟨.hbm, 3, rfl⟩
abbrev main_v2_scv : Ref sig .scVector := ⟨.hbm, 4, rfl⟩
abbrev main_v4_scv : Ref sig .scVector := ⟨.hbm, 6, rfl⟩
abbrev main_v5_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S200x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k2_t1_loop : Scf.Loop 32 :=
  let c0_i32_28 : BitVec 32 := 0#32
  let c320_i32_29 : BitVec 32 := 320#32
  let v33 : BitVec 32 := Scalar.addi c0_i32_28 c320_i32_29
  let c1_i32_30 : BitVec 32 := 1#32
  ⟨c0_i32_28, v33, c1_i32_30⟩
def k2_cond1 (k2_t1 : Fin k2_t1_loop.trips) : BitVec 1 :=
  let c0_i32_28 : BitVec 32 := 0#32
  let c1_i32_30 : BitVec 32 := 1#32
  let arg12 : BitVec 32 := Scf.iv c0_i32_28 c1_i32_30 k2_t1
  let c3_i32_58 : BitVec 32 := 3#32
  let v63 : BitVec 1 := Scalar.cmpi .sge arg12 c3_i32_58
  let v64 : BitVec 32 := Scalar.extui v63
  let c0_i32_59 : BitVec 32 := 0#32
  let v65 : BitVec 1 := Scalar.cmpi .ne v64 c0_i32_59
  v65

def k2_off2 (k2_t1 : Fin k2_t1_loop.trips) : Fin 3 → Nat :=
  let c0_i32_28 : BitVec 32 := 0#32
  let c1_i32_30 : BitVec 32 := 1#32
  let arg12 : BitVec 32 := Scf.iv c0_i32_28 c1_i32_30 k2_t1
  let c3_i32_56 : BitVec 32 := 3#32
  let v60 : BitVec 32 := Scalar.remsi arg12 c3_i32_56
  let c0_i32_80 : BitVec 32 := 0#32
  let c0_i32_81 : BitVec 32 := 0#32
  ![v60.toNat, 0, 0]
def k2_off3 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_82 : BitVec 32 := 0#32
  ![v2.toNat, 0]
def k2_off4 (k2_t1 : Fin k2_t1_loop.trips) : Fin 1 → Nat :=
  let c0_i32_28 : BitVec 32 := 0#32
  let c1_i32_30 : BitVec 32 := 1#32
  let arg12 : BitVec 32 := Scf.iv c0_i32_28 c1_i32_30 k2_t1
  let c3_i32_56 : BitVec 32 := 3#32
  let v60 : BitVec 32 := Scalar.remsi arg12 c3_i32_56
  ![v60.toNat]
def k2_off5 (k2_t1 : Fin k2_t1_loop.trips) : Fin 3 → Nat :=
  let c0_i32_28 : BitVec 32 := 0#32
  let c1_i32_30 : BitVec 32 := 1#32
  let arg12 : BitVec 32 := Scf.iv c0_i32_28 c1_i32_30 k2_t1
  let c5_i32 : BitVec 32 := 5#32
  let v59 : BitVec 32 := Scalar.remsi arg12 c5_i32
  let c0_i32_60 : BitVec 32 := 0#32
  let c0_i32_61 : BitVec 32 := 0#32
  ![v59.toNat, 0, 0]
def k2_off6 (k2_t1 : Fin k2_t1_loop.trips) : Fin 1 → Nat :=
  let c0_i32_28 : BitVec 32 := 0#32
  let c1_i32_30 : BitVec 32 := 1#32
  let arg12 : BitVec 32 := Scf.iv c0_i32_28 c1_i32_30 k2_t1
  let c5_i32 : BitVec 32 := 5#32
  let v59 : BitVec 32 := Scalar.remsi arg12 c5_i32
  ![v59.toNat]
@[reducible] def k2_t2_loop : Scf.Loop 32 :=
  let c0_i32_65 : BitVec 32 := 0#32
  let c80_i32_66 : BitVec 32 := 80#32
  let v73 : BitVec 32 := Scalar.addi c0_i32_65 c80_i32_66
  let c1_i32_67 : BitVec 32 := 1#32
  ⟨c0_i32_65, v73, c1_i32_67⟩
def k2_off7 (arg15 : BitVec 32) (c0_i32_80 : BitVec 32) : Fin 1 → Nat :=
  let v89 : BitVec 32 := Scalar.addi arg15 c0_i32_80
  let v90 : Index := Scalar.indexCast v89
  ![v90.toNat]

def k2_chk1 (arg15 : BitVec 32) : Prop :=
  (∀ (r : Fin 4), ∀ a, (k2_off7 arg15 (BitVec.ofNat 32 (16 * r.val))) a + S16.size a ≤ S12800.size a)
theorem k2_off7_inb : ∀ (arg15 : BitVec 32) (k2_hw1 : k2_chk1 arg15), ∀ (r : Fin 4), ∀ a, (k2_off7 arg15 (BitVec.ofNat 32 (16 * r.val))) a + S16.size a ≤ S12800.size a := fun arg15 k2_hw1 r => k2_hw1 r

def k2_off8 (k2_t1 : Fin k2_t1_loop.trips) (k2_t2 : Fin k2_t2_loop.trips) : Fin 3 → Nat :=
  let c0_i32_28 : BitVec 32 := 0#32
  let c1_i32_30 : BitVec 32 := 1#32
  let arg12 : BitVec 32 := Scf.iv c0_i32_28 c1_i32_30 k2_t1
  let c5_i32 : BitVec 32 := 5#32
  let v59 : BitVec 32 := Scalar.remsi arg12 c5_i32
  let v93 : Index := Scalar.indexCast v59
  let c0_i32_65 : BitVec 32 := 0#32
  let c1_i32_67 : BitVec 32 := 1#32
  let arg14 : BitVec 32 := Scf.iv c0_i32_65 c1_i32_67 k2_t2
  let v94 : Index := Scalar.indexCast arg14
  let c0 : Index := 0#32
  ![v93.toNat, v94.toNat, 0]
def k2_off9 (k2_t1 : Fin k2_t1_loop.trips) (k2_t2 : Fin k2_t2_loop.trips) : Fin 3 → Nat :=
  let c0_i32_28 : BitVec 32 := 0#32
  let c1_i32_30 : BitVec 32 := 1#32
  let arg12 : BitVec 32 := Scf.iv c0_i32_28 c1_i32_30 k2_t1
  let c3_i32_56 : BitVec 32 := 3#32
  let v60 : BitVec 32 := Scalar.remsi arg12 c3_i32_56
  let v98 : Index := Scalar.indexCast v60
  let c0_i32_65 : BitVec 32 := 0#32
  let c1_i32_67 : BitVec 32 := 1#32
  let arg14 : BitVec 32 := Scf.iv c0_i32_65 c1_i32_67 k2_t2
  let v99 : Index := Scalar.indexCast arg14
  let c0_81 : Index := 0#32
  ![v98.toNat, v99.toNat, 0]
def k2_off10 (k2_t1 : Fin k2_t1_loop.trips) (k2_t2 : Fin k2_t2_loop.trips) : Fin 3 → Nat :=
  let c0_i32_28 : BitVec 32 := 0#32
  let c1_i32_30 : BitVec 32 := 1#32
  let arg12 : BitVec 32 := Scf.iv c0_i32_28 c1_i32_30 k2_t1
  let c5_i32 : BitVec 32 := 5#32
  let v59 : BitVec 32 := Scalar.remsi arg12 c5_i32
  let v107 : Index := Scalar.indexCast v59
  let c0_i32_65 : BitVec 32 := 0#32
  let c1_i32_67 : BitVec 32 := 1#32
  let arg14 : BitVec 32 := Scf.iv c0_i32_65 c1_i32_67 k2_t2
  let v108 : Index := Scalar.indexCast arg14
  let c16 : Index := 16#32
  ![v107.toNat, v108.toNat, 16]
def k2_off11 (k2_t1 : Fin k2_t1_loop.trips) (k2_t2 : Fin k2_t2_loop.trips) : Fin 3 → Nat :=
  let c0_i32_28 : BitVec 32 := 0#32
  let c1_i32_30 : BitVec 32 := 1#32
  let arg12 : BitVec 32 := Scf.iv c0_i32_28 c1_i32_30 k2_t1
  let c3_i32_56 : BitVec 32 := 3#32
  let v60 : BitVec 32 := Scalar.remsi arg12 c3_i32_56
  let v112 : Index := Scalar.indexCast v60
  let c0_i32_65 : BitVec 32 := 0#32
  let c1_i32_67 : BitVec 32 := 1#32
  let arg14 : BitVec 32 := Scf.iv c0_i32_65 c1_i32_67 k2_t2
  let v113 : Index := Scalar.indexCast arg14
  let c16_82 : Index := 16#32
  ![v112.toNat, v113.toNat, 16]
def k2_off12 (k2_t1 : Fin k2_t1_loop.trips) (k2_t2 : Fin k2_t2_loop.trips) : Fin 3 → Nat :=
  let c0_i32_28 : BitVec 32 := 0#32
  let c1_i32_30 : BitVec 32 := 1#32
  let arg12 : BitVec 32 := Scf.iv c0_i32_28 c1_i32_30 k2_t1
  let c5_i32 : BitVec 32 := 5#32
  let v59 : BitVec 32 := Scalar.remsi arg12 c5_i32
  let v121 : Index := Scalar.indexCast v59
  let c0_i32_65 : BitVec 32 := 0#32
  let c1_i32_67 : BitVec 32 := 1#32
  let arg14 : BitVec 32 := Scf.iv c0_i32_65 c1_i32_67 k2_t2
  let v122 : Index := Scalar.indexCast arg14
  let c32 : Index := 32#32
  ![v121.toNat, v122.toNat, 32]
def k2_off13 (k2_t1 : Fin k2_t1_loop.trips) (k2_t2 : Fin k2_t2_loop.trips) : Fin 3 → Nat :=
  let c0_i32_28 : BitVec 32 := 0#32
  let c1_i32_30 : BitVec 32 := 1#32
  let arg12 : BitVec 32 := Scf.iv c0_i32_28 c1_i32_30 k2_t1
  let c3_i32_56 : BitVec 32 := 3#32
  let v60 : BitVec 32 := Scalar.remsi arg12 c3_i32_56
  let v126 : Index := Scalar.indexCast v60
  let c0_i32_65 : BitVec 32 := 0#32
  let c1_i32_67 : BitVec 32 := 1#32
  let arg14 : BitVec 32 := Scf.iv c0_i32_65 c1_i32_67 k2_t2
  let v127 : Index := Scalar.indexCast arg14
  let c32_83 : Index := 32#32
  ![v126.toNat, v127.toNat, 32]
def k2_off14 (k2_t1 : Fin k2_t1_loop.trips) (k2_t2 : Fin k2_t2_loop.trips) : Fin 3 → Nat :=
  let c0_i32_28 : BitVec 32 := 0#32
  let c1_i32_30 : BitVec 32 := 1#32
  let arg12 : BitVec 32 := Scf.iv c0_i32_28 c1_i32_30 k2_t1
  let c5_i32 : BitVec 32 := 5#32
  let v59 : BitVec 32 := Scalar.remsi arg12 c5_i32
  let v135 : Index := Scalar.indexCast v59
  let c0_i32_65 : BitVec 32 := 0#32
  let c1_i32_67 : BitVec 32 := 1#32
  let arg14 : BitVec 32 := Scf.iv c0_i32_65 c1_i32_67 k2_t2
  let v136 : Index := Scalar.indexCast arg14
  let c48 : Index := 48#32
  ![v135.toNat, v136.toNat, 48]
def k2_off15 (k2_t1 : Fin k2_t1_loop.trips) (k2_t2 : Fin k2_t2_loop.trips) : Fin 3 → Nat :=
  let c0_i32_28 : BitVec 32 := 0#32
  let c1_i32_30 : BitVec 32 := 1#32
  let arg12 : BitVec 32 := Scf.iv c0_i32_28 c1_i32_30 k2_t1
  let c3_i32_56 : BitVec 32 := 3#32
  let v60 : BitVec 32 := Scalar.remsi arg12 c3_i32_56
  let v140 : Index := Scalar.indexCast v60
  let c0_i32_65 : BitVec 32 := 0#32
  let c1_i32_67 : BitVec 32 := 1#32
  let arg14 : BitVec 32 := Scf.iv c0_i32_65 c1_i32_67 k2_t2
  let v141 : Index := Scalar.indexCast arg14
  let c48_84 : Index := 48#32
  ![v140.toNat, v141.toNat, 48]
def k2_off16 (k2_t1 : Fin k2_t1_loop.trips) : Fin 3 → Nat :=
  let c0_i32_28 : BitVec 32 := 0#32
  let c1_i32_30 : BitVec 32 := 1#32
  let arg12 : BitVec 32 := Scf.iv c0_i32_28 c1_i32_30 k2_t1
  let c3_i32_56 : BitVec 32 := 3#32
  let v60 : BitVec 32 := Scalar.remsi arg12 c3_i32_56
  let c0_i32_70 : BitVec 32 := 0#32
  let c0_i32_71 : BitVec 32 := 0#32
  ![v60.toNat, 0, 0]
def k2_off17 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_28 : BitVec 32 := 0#32
  let c1_i32_30 : BitVec 32 := 1#32
  let arg12 : BitVec 32 := Scf.iv c0_i32_28 c1_i32_30 k2_t1
  let c80_i32_69 : BitVec 32 := 80#32
  let v75 : BitVec 32 := Scalar.muli arg12 c80_i32_69
  let v76 : BitVec 32 := Scalar.addi v2 v75
  let c0_i32_72 : BitVec 32 := 0#32
  ![v76.toNat, 0]
def k2_off18 (k2_t1 : Fin k2_t1_loop.trips) : Fin 1 → Nat :=
  let c0_i32_28 : BitVec 32 := 0#32
  let c1_i32_30 : BitVec 32 := 1#32
  let arg12 : BitVec 32 := Scf.iv c0_i32_28 c1_i32_30 k2_t1
  let c3_i32_56 : BitVec 32 := 3#32
  let v60 : BitVec 32 := Scalar.remsi arg12 c3_i32_56
  ![v60.toNat]
def k2_cond2 (k2_t1 : Fin k2_t1_loop.trips) : BitVec 1 :=
  let c0_i32_28 : BitVec 32 := 0#32
  let c1_i32_30 : BitVec 32 := 1#32
  let arg12 : BitVec 32 := Scf.iv c0_i32_28 c1_i32_30 k2_t1
  let c5_i32_76 : BitVec 32 := 5#32
  let v85 : BitVec 32 := Scalar.addi arg12 c5_i32_76
  let c320_i32_77 : BitVec 32 := 320#32
  let v86 : BitVec 1 := Scalar.cmpi .slt v85 c320_i32_77
  let v87 : BitVec 32 := Scalar.extui v86
  let c0_i32_78 : BitVec 32 := 0#32
  let v88 : BitVec 1 := Scalar.cmpi .ne v87 c0_i32_78
  v88

def k2_off19 (k2_t1 : Fin k2_t1_loop.trips) : Fin 3 → Nat :=
  let c0_i32_28 : BitVec 32 := 0#32
  let c1_i32_30 : BitVec 32 := 1#32
  let arg12 : BitVec 32 := Scf.iv c0_i32_28 c1_i32_30 k2_t1
  let c5_i32 : BitVec 32 := 5#32
  let v59 : BitVec 32 := Scalar.remsi arg12 c5_i32
  let c0_i32_82 : BitVec 32 := 0#32
  let c0_i32_83 : BitVec 32 := 0#32
  ![v59.toNat, 0, 0]
def k2_off20 (k2_t1 : Fin k2_t1_loop.trips) : Fin 1 → Nat :=
  let c0_i32_28 : BitVec 32 := 0#32
  let c1_i32_30 : BitVec 32 := 1#32
  let arg12 : BitVec 32 := Scf.iv c0_i32_28 c1_i32_30 k2_t1
  let c5_i32_80 : BitVec 32 := 5#32
  let v89 : BitVec 32 := Scalar.addi arg12 c5_i32_80
  let c80_i32_81 : BitVec 32 := 80#32
  let v90 : BitVec 32 := Scalar.muli v89 c80_i32_81
  ![v90.toNat]
def k2_off21 (k2_t1 : Fin k2_t1_loop.trips) : Fin 1 → Nat :=
  let c0_i32_28 : BitVec 32 := 0#32
  let c1_i32_30 : BitVec 32 := 1#32
  let arg12 : BitVec 32 := Scf.iv c0_i32_28 c1_i32_30 k2_t1
  let c5_i32 : BitVec 32 := 5#32
  let v59 : BitVec 32 := Scalar.remsi arg12 c5_i32
  ![v59.toNat]
def k2_off22 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_36 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S1000000x64 : Shape := ⟨2, ![1000000, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩
abbrev S200 : Shape := ⟨1, ![200]⟩
abbrev S32 : Shape := ⟨1, ![32]⟩
abbrev S200x1 : Shape := ⟨2, ![200, 1]⟩
abbrev S1x32 : Shape := ⟨2, ![1, 32]⟩
abbrev S200x32 : Shape := ⟨2, ![200, 32]⟩
abbrev S200x32x1 : Shape := ⟨3, ![200, 32, 1]⟩
abbrev S200x32x2 : Shape := ⟨3, ![200, 32, 2]⟩
abbrev S200x64 : Shape := ⟨2, ![200, 64]⟩
abbrev S1x200x64 : Shape := ⟨3, ![1, 200, 64]⟩

abbrev nBuf : Space → Nat
  | .hbm => 50
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x64, .f32⟩
  | .hbm, ⟨21, _⟩ => ⟨S4096x200x64, .i1⟩
  | .hbm, ⟨22, _⟩ => ⟨S_, .f32⟩
  | .hbm, ⟨23, _⟩ => ⟨S4096x200x64, .f32⟩
  | .hbm, ⟨24, _⟩ => ⟨S4096x200x64, .f32⟩
  | .hbm, ⟨25, _⟩ => ⟨S200, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S200x1, .f32⟩
  | .hbm, ⟨37, _⟩ => ⟨S1x32, .f32⟩
  | .hbm, ⟨38, _⟩ => ⟨S200x32, .f32⟩
  | .hbm, ⟨39, _⟩ => ⟨S200x32, .f32⟩
  | .hbm, ⟨40, _⟩ => ⟨S200x32, .f32⟩
  | .hbm, ⟨41, _⟩ => ⟨S200x32, .f32⟩
  | .hbm, ⟨42, _⟩ => ⟨S200x32, .f32⟩
  | .hbm, ⟨43, _⟩ => ⟨S200x32x1, .f32⟩
  | .hbm, ⟨44, _⟩ => ⟨S200x32x1, .f32⟩
  | .hbm, ⟨45, _⟩ => ⟨S200x32x2, .f32⟩
  | .hbm, ⟨46, _⟩ => ⟨S200x64, .f32⟩
  | .hbm, ⟨47, _⟩ => ⟨S1x200x64, .f32⟩
  | .hbm, ⟨48, _⟩ => ⟨S4096x200x64, .f32⟩
  | .hbm, ⟨49, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩

abbrev nD : Nat := 1
abbrev τ : Topo := Topo.v7x

variable {F : FTy → Type} [FloatOps F]
-- ==== Proof.Setup.lean ====
/-
  What every module of the proof shares: the kernel program as the launch theorem sees it, the resource algebra (the
  handshakes' rounds, the two TensorCore pipelines' rounds, the transfers' counters), and the names of the buffers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the kernels and of the two TensorCore pipelines. -/
abbrev ΛP : Labels := Pipeline.Sig Λ₀ (Fin 2) fun p => (pcfgs (F := F) p).Adm
/-- The one SparseCore call. -/
abbrev K : SparseCore.Cfg τ sig (ΛP (F := F)) 1 := sc (F := F)
/-- The call runs on sixteen subcores of each core. -/
theorem nSub_zero : (K (F := F)).nSub 0 = 16 := rfl
/-- The call runs on two cores. -/
theorem nCore_zero : (K (F := F)).nCore 0 = 2 := rfl
/-- The bodies of the kernels and the pipelines. -/
abbrev D [FloatOps F] : Defs nD τ sig (Elt F) (ΛP (F := F)) := Pipeline.defs pcfgs defs₀
/-- No loop needs a variant. -/
abbrev 𝒱₀ : Variants := Variants.none
/-- The same, past the SparseCore labels. -/
abbrev 𝒱 : Variants := 𝒱₀.lift
/-- The variant of @main. -/
abbrev v₀ : 𝒱.V := Sum.inl none

/-- The launch semaphores are distinct and unscoped, and no SparseCore owns a shared task buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' rounds. -/
abbrev UP : Type := URounds (GSem nD τ sig) Unit
/-- Handshakes, pipelines and the counters of the local copies. -/
abbrev UU : Type := UH × (UP × Counters)

local notation "𝕄" => MT nD τ sig (HIx 1) (Elt F) ℕ UU ℕ

/-- The handshakes' part of the algebra. -/
abbrev EH : Emb UH (MT nD τ sig (HIx 1) (Elt F) ℕ UU ℕ) := embL
/-- The pipelines' part of the algebra. -/
def EP : Emb UP (MT nD τ sig (HIx 1) (Elt F) ℕ UU ℕ) :=
  (Emb.inl : Emb UP (UP × Counters)).trans embR

/-- The pipelines' part of the algebra lies in the user's part. -/
instance EP_landsIn : (EP : Emb UP 𝕄).LandsIn (upEmb : UEmb _ 𝕄) := by
  unfold EP embR
  rw [show (Emb.inl : Emb UP (UP × Counters)).trans ((Emb.inr : Emb (UP × Counters) UU).trans (uEmb (nD := nD) (τ := τ) (sig := sig) (Ix := HIx 1) (Val := Elt F) (Name := ℕ) (U := UU) (Lvl := ℕ)).toEmb)
    = ((Emb.inl : Emb UP (UP × Counters)).trans (Emb.inr : Emb (UP × Counters) UU)).trans (uEmb (nD := nD) (τ := τ) (sig := sig) (Ix := HIx 1) (Val := Elt F) (Name := ℕ) (U := UU) (Lvl := ℕ)).toEmb from rfl]
  infer_instance

/-! ## The buffers -/

/-- The two arguments, and the kernel's arrays in order, on device `d`. -/
abbrev a0Loc (d : Dev nD) : Loc nD τ sig := (SparseCore.T d).loc main_arg0
/-- The table, as given. -/
abbrev a1Loc (d : Dev nD) : Loc nD τ sig := (SparseCore.T d).loc main_arg1
/-- The transposed table. -/
abbrev b0Loc (d : Dev nD) : Loc nD τ sig := (SparseCore.T d).loc main_v0
/-- The detiled table. -/
abbrev b1Loc (d : Dev nD) : Loc nD τ sig := (SparseCore.T d).loc main_v1
/-- The flattened indices. -/
abbrev b2Loc (d : Dev nD) : Loc nD τ sig := (SparseCore.T d).loc main_v2
/-- The encoding. -/
abbrev b3Loc (d : Dev nD) : Loc nD τ sig := (SparseCore.T d).loc main_v3
/-- The flattened encoding. -/
abbrev b4Loc (d : Dev nD) : Loc nD τ sig := (SparseCore.T d).loc main_v4
/-- The SparseCore call's output. -/
abbrev b5Loc (d : Dev nD) : Loc nD τ sig := (SparseCore.T d).loc main_v5
/-- The result. -/
abbrev b6Loc (d : Dev nD) : Loc nD τ sig := (SparseCore.T d).loc main_v6

/-! ## Indices by their coordinates -/

/-- The index of a one-axis array. -/
abbrev ix1 {n : ℕ} (a : ℕ) (h : a < n) : (⟨1, ![n]⟩ : Shape).Idx := fun | 0 => ⟨a, h⟩
/-- The index of a two-axis array. -/
abbrev ix2 {n k : ℕ} (a b : ℕ) (ha : a < n) (hb : b < k) : (⟨2, ![n, k]⟩ : Shape).Idx := fun | 0 => ⟨a, ha⟩ | 1 => ⟨b, hb⟩
/-- The index of a three-axis array. -/
abbrev ix3 {n k l : ℕ} (a b c : ℕ) (ha : a < n) (hb : b < k) (hc : c < l) : (⟨3, ![n, k, l]⟩ : Shape).Idx :=
  fun | 0 => ⟨a, ha⟩ | 1 => ⟨b, hb⟩ | 2 => ⟨c, hc⟩

end Cert.Proof

end
-- ==== Proof.Row.lean ====
/-
  One row of a chunk: the sixteen-lane loads, sums and stores of a trip of the tile's inner loop.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's buffers, as its body names them -/

/-- The table, the flattened indices, the flattened encodings and the result, in HBM. -/
abbrev mT : Memref sig .scVector .hbm S1000000x128 .f32 := Memref.whole main_v1_scv
/-- The flattened indices, in HBM. -/
abbrev mX : Memref sig .scVector .hbm S819200 .i32 := Memref.whole main_v2_scv
/-- The flattened encodings, in HBM. -/
abbrev mE : Memref sig .scVector .hbm S12800 .f32 := Memref.whole main_v4_scv
/-- The result, in HBM. -/
abbrev mO : Memref sig .scVector .hbm S819200x64 .f32 := Memref.whole main_v5_scv
/-- The tile's indices, its copy of the encodings, its five gather slots and its three output slots. -/
abbrev mI : Memref sig .scVector .vmem S25600 .i32 := Memref.whole cc2_scratch0
/-- The tile's copy of the encodings. -/
abbrev mC : Memref sig .scVector .vmem S12800 .f32 := Memref.whole cc2_scratch1
/-- The tile's five gather slots. -/
abbrev mG : Memref sig .scVector .vmem S5x80x128 .f32 := Memref.whole cc2_scratch2
/-- The tile's three output slots. -/
abbrev mB : Memref sig .scVector .vmem S3x80x64 .f32 := Memref.whole cc2_scratch3

/-- The thread of grid point `L` on device `d`. -/
abbrev thr (d : Dev nD) (L : grid2.Coords) : Thread nD τ := V d ((L 0).castLE hcore2) ((L 1).castLE hsub2)

/-- Gather slot `s`: its elements. -/
def slotG (s : ℕ) : Finset S5x80x128.Idx := Finset.univ.filter fun x => (x 0).val = s
/-- Output slot `s`: its elements. -/
def slotB (s : ℕ) : Finset S3x80x64.Idx := Finset.univ.filter fun x => (x 0).val = s

/-- An element is in gather slot `s` when its first coordinate is `s`. -/
theorem mem_slotG {s : ℕ} {x : S5x80x128.Idx} : x ∈ slotG s ↔ (x 0).val = s := by simp [slotG]
/-- An element is in output slot `s` when its first coordinate is `s`. -/
theorem mem_slotB {s : ℕ} {x : S3x80x64.Idx} : x ∈ slotB s ↔ (x 0).val = s := by simp [slotB]

/-! ## One row's sums -/

section Pure

variable [FloatOps F]

/-- Sixteen lanes reshaped to a 1 by 1 by 16 block, read at an index. -/
theorem cast16 (x : S16.Idx → F .f32) (y : S1x1x16.Idx) :
    shapeCast S1x1x16 x shapeCasts_S16_S1x1x16 y = x (ix1 (y 2).val (y 2).isLt) := by
  rw [shapeCast]
  refine congrArg x (Shape.reshapeEquiv_eq_of_rowMajor _ ?_)
  rw [Shape.rowMajor_val_one, Shape.rowMajor_val_three]
  have h0 : (y 0).val = 0 := by have := (y 0).isLt; change (y 0).val < 1 at this; omega
  have h1 : (y 1).val = 0 := by have := (y 1).isLt; change (y 1).val < 1 at this; omega
  rw [h0, h1]; simp

/-- A 1 by 1 by 16 block reshaped to sixteen lanes, read at an index. -/
theorem uncast16 (x : S1x1x16.Idx → F .f32) (y : S16.Idx) :
    shapeCast S16 x shapeCasts_S1x1x16_S16 y = x (ix3 0 0 (y 0).val Nat.one_pos Nat.one_pos (y 0).isLt) := by
  rw [shapeCast]
  refine congrArg x (Shape.reshapeEquiv_eq_of_rowMajor _ ?_)
  rw [Shape.rowMajor_val_one, Shape.rowMajor_val_three]
  simp

/-- The sixteen sums a store writes: the gathered entries plus the encodings. -/
theorem pay_apply (e : Vec F S16 .f32) (g : Vec F S1x1x16 .f32) (y : S1x1x16.Idx) :
    shapeCast S1x1x16 (addf (shapeCast S16 g shapeCasts_S1x1x16_S16) (shapeCast S16 e shapeCasts_S16_S16)) shapeCasts_S16_S1x1x16 y
      = FloatOps.addf (φ := .f32) (g (ix3 0 0 (y 2).val Nat.one_pos Nat.one_pos (y 2).isLt)) (e (ix1 (y 2).val (y 2).isLt)) := by
  rw [cast16, addf, uncast16, shapeCast, Shape.reshapeEquiv_self]

/-- Row `l` of an output slot holds the sums of row `l` of a gather slot and the encodings from `e` on. -/
def RowSum (f7 : S12800.Idx → F .f32) (f8 : S5x80x128.Idx → F .f32) (sg sb e l : ℕ) (f9 : S3x80x64.Idx → F .f32) : Prop :=
  ∀ (x : S3x80x64.Idx) (y : S5x80x128.Idx) (z : S12800.Idx), (x 0).val = sb → (x 1).val = l → (y 0).val = sg → (y 1).val = l →
    (y 2).val = (x 2).val → (z 0).val = e + (x 2).val → f9 x = FloatOps.addf (φ := .f32) (f8 y) (f7 z)

end Pure

/-! ## Sixteen lanes read and written -/

/-- A sixteen-lane store, read at a place it writes, -/
theorem wr_hit {off : Fin 3 → ℕ} (h : ∀ a, off a + S1x1x16.size a ≤ S3x80x64.size a) (f : S3x80x64.Idx → F .f32) (w : S1x1x16.Idx → F .f32)
    (x : S3x80x64.Idx) (y : S1x1x16.Idx) (hx : ∀ a, (x a).val = off a + (y a).val) :
    (mB.access (Rect.unit off S1x1x16.size h)).write (Elt F) f w Finset.univ x = w y :=
  View.read_writes_cons_hit_of_coords (Val := Elt F) mB.view f (Rect.unit off S1x1x16.size h) w [] y x
    (fun a => by rw [hx a]; show off a + (y a).val = off a + 1 * (y a).val; rw [Nat.one_mul])

/-- and at a place it doesn't write. -/
theorem wr_miss {off : Fin 3 → ℕ} (h : ∀ a, off a + S1x1x16.size a ≤ S3x80x64.size a) (f : S3x80x64.Idx → F .f32) (w : S1x1x16.Idx → F .f32)
    (x : S3x80x64.Idx) (a : Fin 3) (hx : (x a).val < off a ∨ off a + S1x1x16.size a ≤ (x a).val) :
    (mB.access (Rect.unit off S1x1x16.size h)).write (Elt F) f w Finset.univ x = f x :=
  View.read_writes_cons_miss_of_axis (Val := Elt F) mB.view f ⟨Rect.unit off S1x1x16.size h, w⟩ [] x a (off a) (S1x1x16.size a) rfl rfl rfl hx

/-- Sixteen elements of a gather slot, read at an index. -/
theorem rd_slot {off : Fin 3 → ℕ} (h : ∀ a, off a + S1x1x16.size a ≤ S5x80x128.size a) (f : S5x80x128.Idx → F .f32)
    (y : S1x1x16.Idx) (x : S5x80x128.Idx) (hx : ∀ a, (x a).val = off a + (y a).val) :
    (mG.access (Rect.unit off S1x1x16.size h)).read (Elt F) f y = f x :=
  congrArg f (Rect.emb_eq_of_coords (Rect.unit (s := S5x80x128) off S1x1x16.size h) y x
    (fun a => by rw [hx a]; show off a + (y a).val = off a + 1 * (y a).val; rw [Nat.one_mul]))

/-- Sixteen elements of the encodings, read at an index. -/
theorem rd_enc {off : Fin 1 → ℕ} (h : ∀ a, off a + S16.size a ≤ S12800.size a) (f : S12800.Idx → F .f32)
    (y : S16.Idx) (x : S12800.Idx) (hx : (x 0).val = off 0 + (y 0).val) :
    (mC.access (Rect.unit off S16.size h)).read (Elt F) f y = f x :=
  congrArg f (Rect.emb_eq_of_coords (Rect.unit (s := S12800) off S16.size h) y x
    (fun a => by obtain rfl : a = 0 := Subsingleton.elim _ _
                 rw [hx]; show off 0 + (y 0).val = off 0 + 1 * (y 0).val; rw [Nat.one_mul]))

/-- The sum one store writes, at the place it writes it. -/
theorem lane_sum [FloatOps F] {o7 : Fin 1 → ℕ} {o8 : Fin 3 → ℕ} (h7 : ∀ a, o7 a + S16.size a ≤ S12800.size a)
    (h8 : ∀ a, o8 a + S1x1x16.size a ≤ S5x80x128.size a) (f7 : S12800.Idx → F .f32) (f8 : S5x80x128.Idx → F .f32)
    (u : S1x1x16.Idx) (y : S5x80x128.Idx) (z : S12800.Idx) (hy : ∀ a, (y a).val = o8 a + (u a).val) (hz : (z 0).val = o7 0 + (u 2).val) :
    shapeCast S1x1x16 (addf (shapeCast S16 ((mG.access (Rect.unit o8 S1x1x16.size h8)).read (Elt F) f8) shapeCasts_S1x1x16_S16)
      (shapeCast S16 ((mC.access (Rect.unit o7 S16.size h7)).read (Elt F) f7) shapeCasts_S16_S16)) shapeCasts_S16_S1x1x16 u
    = FloatOps.addf (φ := .f32) (f8 y) (f7 z) := by
  rw [pay_apply]
  have h0 : (u 0).val = 0 := by have := (u 0).isLt; change (u 0).val < 1 at this; omega
  have h1 : (u 1).val = 0 := by have := (u 1).isLt; change (u 1).val < 1 at this; omega
  rw [rd_slot h8 f8 _ y, rd_enc h7 f7 _ z]
  · exact hz
  · intro a
    rw [hy a]
    fin_cases a
    · show o8 0 + (u 0).val = o8 0 + 0; rw [h0]
    · show o8 1 + (u 1).val = o8 1 + 0; rw [h1]
    · rfl

/-- The loop over chunks has 320 turns. -/
theorem trips1 : k2_t1_loop.trips = 320 := by decide
/-- The loop over rows has 80 turns. -/
theorem trips2 : k2_t2_loop.trips = 80 := by decide

/-- The offset into the encodings does not wrap around. -/
theorem off7_val (a : BitVec 32) (c : BitVec 32) (h : a.toNat + c.toNat < 12800) : k2_off7 a c 0 = a.toNat + c.toNat := by
  show (a + c).toNat = _
  rw [BitVec.toNat_add]; omega

/-- If 64 encodings follow the offset, the reads of them are within bounds. -/
theorem chk_of (a : BitVec 32) (h : a.toNat + 64 ≤ 12800) : k2_chk1 a := by
  intro r x
  obtain rfl : x = 0 := Subsingleton.elim _ _
  have hr := r.isLt
  have e : (BitVec.ofNat 32 (16 * r.val)).toNat = 16 * r.val := by rw [BitVec.toNat_ofNat]; omega
  rw [off7_val _ _ (by rw [e]; omega), e]
  show a.toNat + 16 * r.val + 16 ≤ 12800
  omega

section Wp

variable [FloatOps F]

variable (d : Dev nD) (L : grid2.Coords)

/-- A load from the tile's copy of the encodings, -/
theorem ldC (r : Rect S12800) {hl : mC.view.LoadsAt r} (q : PosShare TreeShare) (f : S12800.Idx → F .f32) {Q : (r.shape.Idx → F .f32) → sProp (MT nD τ sig (HIx 1) (Elt F) ℕ UU ℕ)} :
    iprop((mC.view.loc (thr d L) ↦[Finset.univ]{q} f) ∗ ((mC.view.loc (thr d L) ↦[Finset.univ]{q} f) -∗ Q ((mC.access r).read (Elt F) f)))
      ⊢ wp frame (wpE (defs₀ (F := F)) 𝒱₀ (thr d L) none) Set.univ (.op (.load mC r hl) .ret) Q := by
  iintro ⟨H, HQ⟩
  iapply (wp_load_rect 𝒱₀ (thr d L) none Set.univ (m := mC) (r := r) (S := Finset.univ) (q := q) (f := f) (Finset.subset_univ _)) $$ H
  iintro H; rw [wp_ret]; imodintro
  iapply HQ $$ H

/-- from a gather slot, -/
theorem ldG (r : Rect S5x80x128) {hl : mG.view.LoadsAt r} (S : Finset S5x80x128.Idx) (f : S5x80x128.Idx → F .f32) (hS : (mG.access r).set ⊆ S)
    {Q : (r.shape.Idx → F .f32) → sProp (MT nD τ sig (HIx 1) (Elt F) ℕ UU ℕ)} :
    iprop((mG.view.loc (thr d L) ↦[S]{fullShare} f) ∗ ((mG.view.loc (thr d L) ↦[S]{fullShare} f) -∗ Q ((mG.access r).read (Elt F) f)))
      ⊢ wp frame (wpE (defs₀ (F := F)) 𝒱₀ (thr d L) none) Set.univ (.op (.load mG r hl) .ret) Q := by
  iintro ⟨H, HQ⟩
  iapply (wp_load_rect 𝒱₀ (thr d L) none Set.univ (m := mG) (r := r) (S := S) (q := fullShare) (f := f) hS) $$ H
  iintro H; rw [wp_ret]; imodintro
  iapply HQ $$ H

/-- from an output slot, -/
theorem ldB (r : Rect S3x80x64) {hl : mB.view.LoadsAt r} (S : Finset S3x80x64.Idx) (f : S3x80x64.Idx → F .f32) (hS : (mB.access r).set ⊆ S)
    {Q : (r.shape.Idx → F .f32) → sProp (MT nD τ sig (HIx 1) (Elt F) ℕ UU ℕ)} :
    iprop((mB.view.loc (thr d L) ↦[S]{fullShare} f) ∗ ((mB.view.loc (thr d L) ↦[S]{fullShare} f) -∗ Q ((mB.access r).read (Elt F) f)))
      ⊢ wp frame (wpE (defs₀ (F := F)) 𝒱₀ (thr d L) none) Set.univ (.op (.load mB r hl) .ret) Q := by
  iintro ⟨H, HQ⟩
  iapply (wp_load_rect 𝒱₀ (thr d L) none Set.univ (m := mB) (r := r) (S := S) (q := fullShare) (f := f) hS) $$ H
  iintro H; rw [wp_ret]; imodintro
  iapply HQ $$ H

/-- and a store to an output slot. -/
theorem stB (r : Rect S3x80x64) (w : r.shape.Idx → F .f32) {hx} {hm} (S : Finset S3x80x64.Idx) (f : S3x80x64.Idx → F .f32) (hS : (mB.access r).set ⊆ S)
    {Q : PUnit → sProp (MT nD τ sig (HIx 1) (Elt F) ℕ UU ℕ)} :
    iprop((mB.view.loc (thr d L) ↦[S]{fullShare} f) ∗ ((mB.view.loc (thr d L) ↦[S]{fullShare} ((mB.access r).write (Elt F) f w Finset.univ)) -∗ Q ⟨⟩))
      ⊢ wp frame (wpE (defs₀ (F := F)) 𝒱₀ (thr d L) none) Set.univ (.op (.store mB r w Finset.univ hx hm) .ret) Q := by
  iintro ⟨H, HQ⟩
  iapply (wp_store 𝒱₀ (thr d L) none Set.univ (m := mB) (r := r) (S := S) (f := f) ((View.setOn_subset_set _ _).trans hS)) $$ H
  iintro H; rw [wp_ret]; imodintro
  iapply HQ $$ H

/-- The trip of the inner loop at row `l` of chunk `k`, over the tile's buffers. -/
abbrev rowBody (v2 : BitVec 32) (k : Fin k2_t1_loop.trips) (v59 v60 : BitVec 32) :=
  k2_t2_body (F := F) L mT (Memref.isWhole_whole _) mX (Memref.isWhole_whole _) mE (Memref.isWhole_whole _) mO (Memref.isWhole_whole _)
    mI (Memref.isWhole_whole _) mC (Memref.isWhole_whole _) mG (Memref.isWhole_whole _) mB (Memref.isWhole_whole _)
    cc2_scratch4 cc2_scratch5 cc2_scoped0 cc2_scoped1 v2 0#32 1#32 k v59 v60

/-- A read of sixteen elements from page `s` stays in gather slot `s`. -/
theorem slotG_sub {off : Fin 3 → ℕ} (h : ∀ a, off a + S1x1x16.size a ≤ S5x80x128.size a) {s : ℕ} (e : off 0 = s) :
    (mG.access (Rect.unit off S1x1x16.size h)).set ⊆ slotG s := by
  intro x hx
  rw [View.set_slice_whole, Rect.mem_set_unit] at hx
  have := hx 0
  rw [mem_slotG]
  change off 0 ≤ (x 0).val ∧ (x 0).val < off 0 + 1 at this
  omega

/-- A write of sixteen elements to page `s` stays in output slot `s`. -/
theorem slotB_sub {off : Fin 3 → ℕ} (h : ∀ a, off a + S1x1x16.size a ≤ S3x80x64.size a) {s : ℕ} (e : off 0 = s) :
    (mB.access (Rect.unit off S1x1x16.size h)).set ⊆ slotB s := by
  intro x hx
  rw [View.set_slice_whole, Rect.mem_set_unit] at hx
  have := hx 0
  rw [mem_slotB]
  change off 0 ≤ (x 0).val ∧ (x 0).val < off 0 + 1 at this
  omega

/-- The four stores of a row's trip, together: the row's sums, and every other row untouched. -/
theorem four_stores (k : Fin k2_t1_loop.trips) (l : Fin k2_t2_loop.trips) (a : BitVec 32) (ha : a.toNat + 64 ≤ 12800)
    (f7 : S12800.Idx → F .f32) (f8 : S5x80x128.Idx → F .f32) (f9 : S3x80x64.Idx → F .f32)
    {h70 h71 h72 h73 h80 h81 h82 h83 h90 h91 h92 h93} :
    let w0 := (mB.access (Rect.unit (k2_off9 k l) S1x1x16.size h90)).write (Elt F) f9
      (k2_pay1 ((mC.access (Rect.unit (k2_off7 a 0#32) S16.size h70)).read (Elt F) f7) ((mG.access (Rect.unit (k2_off8 k l) S1x1x16.size h80)).read (Elt F) f8)) Finset.univ
    let w1 := (mB.access (Rect.unit (k2_off11 k l) S1x1x16.size h91)).write (Elt F) w0
      (k2_pay2 ((mC.access (Rect.unit (k2_off7 a 16#32) S16.size h71)).read (Elt F) f7) ((mG.access (Rect.unit (k2_off10 k l) S1x1x16.size h81)).read (Elt F) f8)) Finset.univ
    let w2 := (mB.access (Rect.unit (k2_off13 k l) S1x1x16.size h92)).write (Elt F) w1
      (k2_pay3 ((mC.access (Rect.unit (k2_off7 a 32#32) S16.size h72)).read (Elt F) f7) ((mG.access (Rect.unit (k2_off12 k l) S1x1x16.size h82)).read (Elt F) f8)) Finset.univ
    let w3 := (mB.access (Rect.unit (k2_off15 k l) S1x1x16.size h93)).write (Elt F) w2
      (k2_pay4 ((mC.access (Rect.unit (k2_off7 a 48#32) S16.size h73)).read (Elt F) f7) ((mG.access (Rect.unit (k2_off14 k l) S1x1x16.size h83)).read (Elt F) f8)) Finset.univ
    RowSum f7 f8 (k.val % 5) (k.val % 3) a.toNat l.val w3 ∧ (∀ x : S3x80x64.Idx, (x 1).val ≠ l.val → w3 x = f9 x) := by
  intro w0 w1 w2 w3
  have e7 (c : BitVec 32) (hc : c.toNat ≤ 48) : k2_off7 a c 0 = a.toNat + c.toNat := off7_val a c (by omega)
  constructor
  · intro x y z hx0 hx1 hy0 hy1 hy2 hz
    have hx2 : (x 2).val < 64 := (x 2).isLt
    have lane (c : ℕ) (cb : BitVec 32) (hcb : cb.toNat = c) (hc : c ≤ 48) (o8 o9 : Fin 3 → ℕ) (e8 : o8 = ![k.val % 5, l.val, c]) (e9 : o9 = ![k.val % 3, l.val, c])
        (hlo : c ≤ (x 2).val) (hhi : (x 2).val < c + 16)
        (h7 : ∀ b, k2_off7 a cb b + S16.size b ≤ S12800.size b) (h8 : ∀ b, o8 b + S1x1x16.size b ≤ S5x80x128.size b)
        (h9 : ∀ b, o9 b + S1x1x16.size b ≤ S3x80x64.size b) (w : S3x80x64.Idx → F .f32) :
        (mB.access (Rect.unit o9 S1x1x16.size h9)).write (Elt F) w
          (shapeCast S1x1x16 (addf (shapeCast S16 ((mG.access (Rect.unit o8 S1x1x16.size h8)).read (Elt F) f8) shapeCasts_S1x1x16_S16)
            (shapeCast S16 ((mC.access (Rect.unit (k2_off7 a cb) S16.size h7)).read (Elt F) f7) shapeCasts_S16_S16)) shapeCasts_S16_S1x1x16) Finset.univ x
          = FloatOps.addf (φ := .f32) (f8 y) (f7 z) := by
      subst e8 e9
      refine (wr_hit h9 w _ x (ix3 0 0 ((x 2).val - c) Nat.one_pos Nat.one_pos (by omega)) ?_).trans
        (lane_sum h7 h8 f7 f8 _ y z ?_ ?_)
      · intro b; fin_cases b
        · show (x 0).val = k.val % 3 + 0; omega
        · show (x 1).val = l.val + 0; omega
        · show (x 2).val = c + ((x 2).val - c); omega
      · intro b; fin_cases b
        · show (y 0).val = k.val % 5 + 0; omega
        · show (y 1).val = l.val + 0; omega
        · show (y 2).val = c + ((x 2).val - c); omega
      · show (z 0).val = k2_off7 a cb 0 + ((x 2).val - c)
        rw [e7 cb (by omega), hz, hcb]; omega
    have miss (c : ℕ) (o9 : Fin 3 → ℕ) (e9 : o9 = ![k.val % 3, l.val, c]) (h9 : ∀ b, o9 b + S1x1x16.size b ≤ S3x80x64.size b)
        (w : S3x80x64.Idx → F .f32) (v : S1x1x16.Idx → F .f32) (hc : (x 2).val < c) :
        (mB.access (Rect.unit o9 S1x1x16.size h9)).write (Elt F) w v Finset.univ x = w x := by
      subst e9
      exact wr_miss h9 w v x 2 (Or.inl hc)
    rcases Nat.lt_or_ge (x 2).val 16 with h | h
    · exact ((miss 48 _ (k2_off15_eq k l) h93 _ _ (by omega)).trans ((miss 32 _ (k2_off13_eq k l) h92 _ _ (by omega)).trans
        ((miss 16 _ (k2_off11_eq k l) h91 _ _ (by omega)).trans
          (lane 0 0#32 rfl (by omega) _ _ (k2_off8_eq k l) (k2_off9_eq k l) (by omega) (by omega) h70 h80 h90 f9))))
    rcases Nat.lt_or_ge (x 2).val 32 with h' | h'
    · exact ((miss 48 _ (k2_off15_eq k l) h93 _ _ (by omega)).trans ((miss 32 _ (k2_off13_eq k l) h92 _ _ (by omega)).trans
          (lane 16 16#32 rfl (by omega) _ _ (k2_off10_eq k l) (k2_off11_eq k l) (by omega) (by omega) h71 h81 h91 w0)))
    rcases Nat.lt_or_ge (x 2).val 48 with h'' | h''
    · exact ((miss 48 _ (k2_off15_eq k l) h93 _ _ (by omega)).trans
          (lane 32 32#32 rfl (by omega) _ _ (k2_off12_eq k l) (k2_off13_eq k l) (by omega) (by omega) h72 h82 h92 w1))
    · exact lane 48 48#32 rfl (by omega) _ _ (k2_off14_eq k l) (k2_off15_eq k l) (by omega) (by omega) h73 h83 h93 w2
  · intro x hx1
    have miss (c : ℕ) (o9 : Fin 3 → ℕ) (e9 : o9 = ![k.val % 3, l.val, c]) (h9 : ∀ b, o9 b + S1x1x16.size b ≤ S3x80x64.size b)
        (w : S3x80x64.Idx → F .f32) (v : S1x1x16.Idx → F .f32) :
        (mB.access (Rect.unit o9 S1x1x16.size h9)).write (Elt F) w v Finset.univ x = w x := by
      subst e9
      refine wr_miss h9 w v x 1 ?_
      show (x 1).val < l.val ∨ l.val + 1 ≤ (x 1).val
      omega
    exact (miss 48 _ (k2_off15_eq k l) h93 _ _).trans ((miss 32 _ (k2_off13_eq k l) h92 _ _).trans
        ((miss 16 _ (k2_off11_eq k l) h91 _ _).trans (miss 0 _ (k2_off9_eq k l) h90 _ _)))

/-- One trip of the inner loop: it adds row `l` of the encodings' window to row `l` of the gathered chunk, and carries on to the next row of
    the encodings. -/
theorem row_wp (v2 : BitVec 32) (k : Fin k2_t1_loop.trips) (v59 v60 : BitVec 32) (l : Fin k2_t2_loop.trips)
    (a : BitVec 32) (ha : a.toNat + 64 ≤ 12800) (q7 : PosShare TreeShare) (f7 : S12800.Idx → F .f32) (f8 : S5x80x128.Idx → F .f32) (f9 : S3x80x64.Idx → F .f32)
    {Q : BitVec 32 → sProp (MT nD τ sig (HIx 1) (Elt F) ℕ UU ℕ)} :
    iprop((mC.view.loc (thr d L) ↦[Finset.univ]{q7} f7) ∗ (mG.view.loc (thr d L) ↦[slotG (k.val % 5)]{fullShare} f8)
        ∗ (mB.view.loc (thr d L) ↦[slotB (k.val % 3)]{fullShare} f9)
        ∗ (∀ f9' : S3x80x64.Idx → F .f32, iprop(⌜RowSum f7 f8 (k.val % 5) (k.val % 3) a.toNat l.val f9' ∧ (∀ x : S3x80x64.Idx, (x 1).val ≠ l.val → f9' x = f9 x)⌝
              ∗ (mC.view.loc (thr d L) ↦[Finset.univ]{q7} f7) ∗ (mG.view.loc (thr d L) ↦[slotG (k.val % 5)]{fullShare} f8)
              ∗ (mB.view.loc (thr d L) ↦[slotB (k.val % 3)]{fullShare} f9'))
            -∗ Q (Scalar.select (Scalar.cmpi .sge (Scalar.addi a 64#32) 12800#32) 0#32 (Scalar.addi a 64#32))))
      ⊢ wp frame (wpE (defs₀ (F := F)) 𝒱₀ (thr d L) none) Set.univ (rowBody L v2 k v59 v60 l a) Q := by
  unfold rowBody k2_t2_body
  rw [k2_part1_eq_skeleton]
  unfold k2_part1_skel
  simp only [wp_bind, wp_pure, Prog.lift]
  iintro ⟨H7, H8, H9, HQ⟩
  iapply (wp_assume 𝒱₀ (thr d L) none Set.univ (chk_of a ha))
  rw [wp_ret]; imodintro
  -- lanes 0 to 15
  iapply (ldC d L _ q7 f7)
  isplitl [H7]; · iexact H7
  iintro H7
  iapply (ldG d L _ (slotG (k.val % 5)) _ (slotG_sub _ (by rw [k2_off8_eq]; rfl)))
  isplitl [H8]; · iexact H8
  iintro H8
  iapply (ldB d L _ (slotB (k.val % 3)) _ (slotB_sub _ (by rw [k2_off9_eq]; rfl)))
  isplitl [H9]; · iexact H9
  iintro H9
  iapply (stB d L _ _ (slotB (k.val % 3)) _ (slotB_sub _ (by rw [k2_off9_eq]; rfl)))
  isplitl [H9]; · iexact H9
  iintro H9
  -- lanes 16 to 31
  iapply (ldC d L _ q7 f7)
  isplitl [H7]; · iexact H7
  iintro H7
  iapply (ldG d L _ (slotG (k.val % 5)) _ (slotG_sub _ (by rw [k2_off10_eq]; rfl)))
  isplitl [H8]; · iexact H8
  iintro H8
  iapply (ldB d L _ (slotB (k.val % 3)) _ (slotB_sub _ (by rw [k2_off11_eq]; rfl)))
  isplitl [H9]; · iexact H9
  iintro H9
  iapply (stB d L _ _ (slotB (k.val % 3)) _ (slotB_sub _ (by rw [k2_off11_eq]; rfl)))
  isplitl [H9]; · iexact H9
  iintro H9
  -- lanes 32 to 47
  iapply (ldC d L _ q7 f7)
  isplitl [H7]; · iexact H7
  iintro H7
  iapply (ldG d L _ (slotG (k.val % 5)) _ (slotG_sub _ (by rw [k2_off12_eq]; rfl)))
  isplitl [H8]; · iexact H8
  iintro H8
  iapply (ldB d L _ (slotB (k.val % 3)) _ (slotB_sub _ (by rw [k2_off13_eq]; rfl)))
  isplitl [H9]; · iexact H9
  iintro H9
  iapply (stB d L _ _ (slotB (k.val % 3)) _ (slotB_sub _ (by rw [k2_off13_eq]; rfl)))
  isplitl [H9]; · iexact H9
  iintro H9
  -- lanes 48 to 63
  iapply (ldC d L _ q7 f7)
  isplitl [H7]; · iexact H7
  iintro H7
  imodintro
  iapply (ldG d L _ (slotG (k.val % 5)) _ (slotG_sub _ (by rw [k2_off14_eq]; rfl)))
  isplitl [H8]; · iexact H8
  iintro H8
  iapply (ldB d L _ (slotB (k.val % 3)) _ (slotB_sub _ (by rw [k2_off15_eq]; rfl)))
  isplitl [H9]; · iexact H9
  iintro H9
  iapply (stB d L _ _ (slotB (k.val % 3)) _ (slotB_sub _ (by rw [k2_off15_eq]; rfl)))
  isplitl [H9]; · iexact H9
  iintro H9
  imodintro
  iapply HQ
  isplitr
  rotate_left
  · isplitl [H7]; · iexact H7
    isplitl [H8]; · iexact H8
    iexact H9
  · ipureintro
    exact four_stores k l a ha f7 f8 f9

end Wp

end Cert.Proof

end
-- ==== Proof.Inner.lean ====
/-
  The tile's inner loop: the sums of one chunk of eighty rows.
-/
module

public import proofs.«01_k».proof.Proof.Row

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Words of the loops -/

/-- The offset of the next row's encodings: the next row's, wrapping around after the last of the 200. -/
abbrev nextOff (a : BitVec 32) : BitVec 32 :=
  Scalar.select (Scalar.cmpi .sge (Scalar.addi a 64#32) 12800#32) 0#32 (Scalar.addi a 64#32)

/-- The offset of the next row's encodings, from each of the 200 positions. -/
theorem nextOff_all : ∀ r : Fin 200, (nextOff (BitVec.ofNat 32 (r.val * 64))).toNat = ((r.val + 1) % 200) * 64 := by decide +kernel

/-- The offset of the encodings goes from row `n`'s to row `n + 1`'s, around the 200 positions. -/
theorem nextOff_val (a : BitVec 32) (n : ℕ) (h : a.toNat = (n % 200) * 64) : (nextOff a).toNat = ((n + 1) % 200) * 64 := by
  have hr : n % 200 < 200 := Nat.mod_lt _ (by omega)
  have e : a = BitVec.ofNat 32 ((n % 200) * 64) := BitVec.eq_of_toNat_eq (by rw [h, BitVec.toNat_ofNat]; omega)
  rw [e]
  refine (nextOff_all ⟨n % 200, hr⟩).trans ?_
  show (n % 200 + 1) % 200 * 64 = _
  omega

/-- The offset of the encodings of chunk `k`'s first row. -/
abbrev firstOff (k : Fin k2_t1_loop.trips) : BitVec 32 :=
  Scalar.muli (Scalar.remsi (Scalar.muli (Scf.iv 0#32 1#32 k) 80#32) 200#32) 64#32

/-- The offset of the encodings of chunk `k`'s first row, as a number. -/
theorem firstOff_val : ∀ k : Fin k2_t1_loop.trips, (firstOff k).toNat = ((80 * k.val) % 200) * 64 := by decide +kernel
/-- An earlier copy out is waited for from the fourth chunk on. -/
theorem cond1_iff : ∀ k : Fin k2_t1_loop.trips, k2_cond1 k = 1#1 ↔ 3 ≤ k.val := by decide +kernel
/-- A further gather is started as long as there is a chunk five further on. -/
theorem cond2_iff : ∀ k : Fin k2_t1_loop.trips, k2_cond2 k = 1#1 ↔ k.val + 5 < 320 := by decide +kernel

/-! ## A chunk's rows -/

section Wp

variable [FloatOps F] (d : Dev nD) (L : grid2.Coords)

/-- The first `n` rows of an output slot hold the sums of chunk `k`. -/
def RowsTo (f7 : S12800.Idx → F .f32) (f8 : S5x80x128.Idx → F .f32) (k n : ℕ) (f9 : S3x80x64.Idx → F .f32) : Prop :=
  ∀ l, l < n → RowSum f7 f8 (k % 5) (k % 3) ((80 * k + l) % 200 * 64) l f9

/-- If the first `n` rows are summed and row `n` is summed with no other row touched, the first `n + 1` are. -/
theorem RowsTo.succ {f7 : S12800.Idx → F .f32} {f8 : S5x80x128.Idx → F .f32} {k n : ℕ} {f9 f9' : S3x80x64.Idx → F .f32}
    (h : RowsTo f7 f8 k n f9) (hs : RowSum f7 f8 (k % 5) (k % 3) ((80 * k + n) % 200 * 64) n f9')
    (ho : ∀ x : S3x80x64.Idx, (x 1).val ≠ n → f9' x = f9 x) : RowsTo f7 f8 k (n + 1) f9' := by
  intro l hl
  rcases Nat.lt_succ_iff_lt_or_eq.mp hl with hl | rfl
  · intro x y z hx0 hx1 hy0 hy1 hy2 hz
    rw [ho x (by omega)]
    exact h l hl x y z hx0 hx1 hy0 hy1 hy2 hz
  · exact hs

/-- The inner loop's invariant before row `n`: the offset it carries, and the first `n` rows done. -/
def innerInv (k : ℕ) (f7 : S12800.Idx → F .f32) (f8 : S5x80x128.Idx → F .f32) (n : ℕ) (a : BitVec 32) : sProp (MT nD τ sig (HIx 1) (Elt F) ℕ UU ℕ) :=
  iprop(⌜a.toNat = ((80 * k + n) % 200) * 64⌝ ∗ (mC.view.loc (thr d L) ↦[Finset.univ]{fullShare} f7) ∗ (mG.view.loc (thr d L) ↦[slotG (k % 5)]{fullShare} f8)
    ∗ ∃ f9 : S3x80x64.Idx → F .f32, ⌜RowsTo f7 f8 k n f9⌝ ∗ (mB.view.loc (thr d L) ↦[slotB (k % 3)]{fullShare} f9))

/-- One turn of the loop over rows sums one more row. -/
theorem inner_step (v2 : BitVec 32) (k : Fin k2_t1_loop.trips) (v59 v60 : BitVec 32) (f7 : S12800.Idx → F .f32) (f8 : S5x80x128.Idx → F .f32)
    (l : Fin k2_t2_loop.trips) (a : BitVec 32) :
    innerInv d L k.val f7 f8 l.val a
      ⊢ wp frame (wpE (defs₀ (F := F)) 𝒱₀ (thr d L) none) Set.univ (rowBody L v2 k v59 v60 l a) (innerInv d L k.val f7 f8 (l.val + 1)) := by
  unfold innerInv
  iintro ⟨%ha, H7, H8, ⟨%f9, %h9, H9⟩⟩
  iapply (row_wp d L v2 k v59 v60 l a (by rw [ha]; omega) fullShare f7 f8 f9)
  isplitl [H7]; · iexact H7
  isplitl [H8]; · iexact H8
  isplitl [H9]; · iexact H9
  iintro %f9' ⟨%hs, H7, H8, H9⟩
  isplitr
  · ipureintro; exact nextOff_val a _ ha
  isplitl [H7]; · iexact H7
  isplitl [H8]; · iexact H8
  iexists f9'
  isplitr
  · ipureintro; exact h9.succ (ha ▸ hs.1) hs.2
  · iexact H9

/-- The inner loop fills an output slot with the sums of chunk `k`. -/
theorem inner_wp (v2 : BitVec 32) (k : Fin k2_t1_loop.trips) (v59 v60 : BitVec 32) (f7 : S12800.Idx → F .f32) (f8 : S5x80x128.Idx → F .f32)
    (f9 : S3x80x64.Idx → F .f32) {Q : BitVec 32 → sProp (MT nD τ sig (HIx 1) (Elt F) ℕ UU ℕ)} :
    iprop((mC.view.loc (thr d L) ↦[Finset.univ]{fullShare} f7) ∗ (mG.view.loc (thr d L) ↦[slotG (k.val % 5)]{fullShare} f8)
        ∗ (mB.view.loc (thr d L) ↦[slotB (k.val % 3)]{fullShare} f9)
        ∗ (∀ (a : BitVec 32) (f9' : S3x80x64.Idx → F .f32), iprop(⌜RowsTo f7 f8 k.val 80 f9'⌝
              ∗ (mC.view.loc (thr d L) ↦[Finset.univ]{fullShare} f7) ∗ (mG.view.loc (thr d L) ↦[slotG (k.val % 5)]{fullShare} f8)
              ∗ (mB.view.loc (thr d L) ↦[slotB (k.val % 3)]{fullShare} f9')) -∗ Q a))
      ⊢ wp frame (wpE (defs₀ (F := F)) 𝒱₀ (thr d L) none) Set.univ
          (Scf.Loop.for k2_t2_loop k2_t2_ok (firstOff k) (rowBody (F := F) L v2 k v59 v60)) Q := by
  iintro ⟨H7, H8, H9, HQ⟩
  iapply (Scf.wp_for _ _ _ _ _ _ k2_t2_ok (firstOff k) (rowBody (F := F) L v2 k v59 v60) (innerInv d L k.val f7 f8) (inner_step d L v2 k v59 v60 f7 f8))
  isplitl [H7 H8 H9]
  · unfold innerInv
    isplitr
    · ipureintro; exact firstOff_val k
    isplitl [H7]; · iexact H7
    isplitl [H8]; · iexact H8
    iexists f9
    isplitr
    · ipureintro; intro l hl; omega
    · iexact H9
  · iintro %a HI
    unfold innerInv
    icases HI with ⟨-, H7, H8, ⟨%f9', %h9, H9⟩⟩
    iapply HQ $$ %a %f9'
    isplitr
    · ipureintro; exact h9
    isplitl [H7]; · iexact H7
    isplitl [H8]; · iexact H8
    iexact H9

end Wp

end Cert.Proof

end
-- ==== Proof.Copies.lean ====
/-
  The tile's transfers: the views they go through, and the four shapes of step (a gather begun and waited for, a chunk's copy begun and
  waited for).
-/
module

public import proofs.«01_k».proof.Proof.Inner

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A flight carries what is put beside it -/

/-- What a core holds beside a flight can be delivered with it. -/
theorem flight_carry [FloatOps F] {c : Thread nD τ} {sm : SemLoc sig} {ι : HIx 1} {N : ℕ} {P R : sProp (MT nD τ sig (HIx 1) (Elt F) ℕ UU ℕ)} :
    iprop(Transfers.Flight countersEmb c sm ι N P ∗ R) ⊢ (Transfers.Flight countersEmb c sm ι N iprop(P ∗ R) : sProp 𝕄) := by
  unfold Transfers.Flight
  iintro ⟨⟨⟨%A, HA, %hcap, %hpeek⟩, Hcred⟩, HR⟩
  isplitl [HA HR]
  · iexists iprop(A ∗ R)
    isplitl [HA HR]
    · isplitl [HA] <;> iassumption
    isplit
    · ipureintro
      intro K'
      refine BIBase.Entails.trans ?_ (hcap K')
      iintro ⟨⟨HA, HR⟩, HK⟩
      isplitl [HA]; · iexact HA
      iintro ⟨Hv, HP⟩
      iapply HK
      isplitl [Hv]; · iexact Hv
      isplitl [HP] <;> iassumption
    · ipureintro
      intro K'
      refine BIBase.Entails.trans ?_ (hpeek K')
      iintro ⟨⟨HA, HR⟩, HK⟩
      isplitl [HA]; · iexact HA
      iintro HA
      iapply HK
      isplitl [HA] <;> iassumption
  · iexact Hcred

/-! ## The views of the tile's transfers -/

/-- Gather slot as the body names it: one page of the five, as 80 rows of 128. -/
abbrev slotMG (off : Fin 3 → ℕ) (h : ∀ a, off a + S1x80x128.size a ≤ S5x80x128.size a) : Memref sig .scVector .vmem S80x128 .f32 :=
  (mG.slice (Rect.unit (s := S5x80x128) off S1x80x128.size h) (fun _ => rfl)).squeeze S80x128 squeezes_S1x80x128_S80x128
/-- Output slot as the body names it: one page of the three, as 80 rows of 64. -/
abbrev slotMB (off : Fin 3 → ℕ) (h : ∀ a, off a + S1x80x64.size a ≤ S3x80x64.size a) : Memref sig .scVector .vmem S80x64 .f32 :=
  (mB.slice (Rect.unit (s := S3x80x64) off S1x80x64.size h) (fun _ => rfl)).squeeze S80x64 squeezes_S1x80x64_S80x64
/-- Eighty of the tile's indices, from an offset. -/
abbrev listM (off : Fin 1 → ℕ) (h : ∀ a, off a + S80.size a ≤ S25600.size a) : Memref sig .scVector .vmem S80 .i32 :=
  mI.slice (Rect.unit (s := S25600) off S80.size h) (fun _ => rfl)
/-- Eighty rows of the result, from an offset. -/
abbrev outM (off : Fin 2 → ℕ) (h : ∀ a, off a + S80x64.size a ≤ S819200x64.size a) : Memref sig .scVector .hbm S80x64 .f32 :=
  mO.slice (Rect.unit (s := S819200x64) off S80x64.size h) (fun _ => rfl)
/-- The whole table, as the gathers name it. -/
abbrev tableM : Memref sig .scVector .hbm S1000000x128 .f32 :=
  mT.slice (Rect.unit (s := S1000000x128) ![0, 0] S1000000x128.size inb_S1000000x128_S1000000x128_0_0) (fun _ => rfl)
/-- The gathers' semaphore at an offset. -/
abbrev semMG (off : Fin 1 → ℕ) (h : ∀ a, off a + S1.size a ≤ S5.size a) : DmaSem sig :=
  ((cc2_scratch4.slice (Rect.unit (s := S5) off S1.size h)).squeeze S_ squeezes_S1_S_).sem
/-- The output copies' semaphore at an offset. -/
abbrev semMB (off : Fin 1 → ℕ) (h : ∀ a, off a + S1.size a ≤ S3.size a) : DmaSem sig :=
  ((cc2_scratch5.slice (Rect.unit (s := S3) off S1.size h)).squeeze S_ squeezes_S1_S_).sem

/-- The semaphore of gather slot `s`, and of output slot `s`. -/
def gsem (s : Fin 5) : DmaSem sig := semMG ![s.val] (fun a => by have := s.isLt; fin_cases a; show s.val + 1 ≤ 5; omega)
/-- The semaphore of output slot `s`. -/
def osem (s : Fin 3) : DmaSem sig := semMB ![s.val] (fun a => by have := s.isLt; fin_cases a; show s.val + 1 ≤ 3; omega)

/-- The gathers' semaphore at offset `s` is that of slot `s`. -/
theorem semMG_eq {off : Fin 1 → ℕ} (h) (s : Fin 5) (e : off = ![s.val]) : semMG off h = gsem s := by subst e; rfl
/-- The output copies' semaphore at offset `s` is that of slot `s`. -/
theorem semMB_eq {off : Fin 1 → ℕ} (h) (s : Fin 3) (e : off = ![s.val]) : semMB off h = osem s := by subst e; rfl

/-- The rows of chunk `n` of the result. -/
def chunkSet (n : ℕ) : Finset S819200x64.Idx := Finset.univ.filter fun x => 80 * n ≤ (x 0).val ∧ (x 0).val < 80 * n + 80
/-- Chunk `n` is rows `80 n` to `80 n + 79`. -/
theorem mem_chunkSet {n : ℕ} {x : S819200x64.Idx} : x ∈ chunkSet n ↔ 80 * n ≤ (x 0).val ∧ (x 0).val < 80 * n + 80 := by simp [chunkSet]

/-- Element `(r, c)` of gather slot `s` is element `(s, r, c)` of the buffer. -/
theorem slotMG_emb {off : Fin 3 → ℕ} (h) (s : ℕ) (e : off = ![s, 0, 0]) (x : S80x128.Idx) (y : S5x80x128.Idx)
    (h0 : (y 0).val = s) (h1 : (y 1).val = (x 0).val) (h2 : (y 2).val = (x 1).val) : (slotMG off h).view.emb x = y := by
  subst e
  have er : (Shape.reshapeEquiv (squeezes_S1x80x128_S80x128).numel_eq x : S1x80x128.Idx) = (ix3 0 (x 0).val (x 1).val Nat.one_pos (x 0).isLt (x 1).isLt : (⟨3, ![1, 80, 128]⟩ : Shape).Idx) := by
    refine Shape.reshapeEquiv_eq_of_rowMajor _ ?_
    refine (Shape.rowMajor_val_three _).trans (Eq.trans ?_ (Shape.rowMajor_val_two _).symm)
    show (0 * 80 + (x 0).val) * 128 + (x 1).val = (x 0).val * 128 + (x 1).val
    omega
  show (Rect.unit (s := S5x80x128) ![s, 0, 0] S1x80x128.size h).emb (Shape.reshapeEquiv (squeezes_S1x80x128_S80x128).numel_eq x) = y
  rw [er]
  refine Rect.emb_eq_of_coords _ _ _ fun a => ?_
  fin_cases a
  · show (y 0).val = s + 1 * 0; omega
  · show (y 1).val = 0 + 1 * (x 0).val; omega
  · show (y 2).val = 0 + 1 * (x 1).val; omega

/-- Element `(r, c)` of output slot `s` is element `(s, r, c)` of the buffer. -/
theorem slotMB_emb {off : Fin 3 → ℕ} (h) (s : ℕ) (e : off = ![s, 0, 0]) (x : S80x64.Idx) (y : S3x80x64.Idx)
    (h0 : (y 0).val = s) (h1 : (y 1).val = (x 0).val) (h2 : (y 2).val = (x 1).val) : (slotMB off h).view.emb x = y := by
  subst e
  have er : (Shape.reshapeEquiv (squeezes_S1x80x64_S80x64).numel_eq x : S1x80x64.Idx) = (ix3 0 (x 0).val (x 1).val Nat.one_pos (x 0).isLt (x 1).isLt : (⟨3, ![1, 80, 64]⟩ : Shape).Idx) := by
    refine Shape.reshapeEquiv_eq_of_rowMajor _ ?_
    refine (Shape.rowMajor_val_three _).trans (Eq.trans ?_ (Shape.rowMajor_val_two _).symm)
    show (0 * 80 + (x 0).val) * 64 + (x 1).val = (x 0).val * 64 + (x 1).val
    omega
  show (Rect.unit (s := S3x80x64) ![s, 0, 0] S1x80x64.size h).emb (Shape.reshapeEquiv (squeezes_S1x80x64_S80x64).numel_eq x) = y
  rw [er]
  refine Rect.emb_eq_of_coords _ _ _ fun a => ?_
  fin_cases a
  · show (y 0).val = s + 1 * 0; omega
  · show (y 1).val = 0 + 1 * (x 0).val; omega
  · show (y 2).val = 0 + 1 * (x 1).val; omega

/-- The elements that gather slot `s` names. -/
theorem slotMG_set {off : Fin 3 → ℕ} (h) (s : ℕ) (e : off = ![s, 0, 0]) : (slotMG off h).view.set = slotG s := by
  ext y
  rw [mem_slotG]
  constructor
  · intro hy
    obtain ⟨x, -, hx⟩ := Finset.mem_map.mp hy
    have hs : s < 5 := by have := h 0; rw [e] at this; change s + 1 ≤ 5 at this; omega
    rw [slotMG_emb h s e x (ix3 s (x 0).val (x 1).val hs (x 0).isLt (x 1).isLt) rfl rfl rfl] at hx
    rw [← hx]
  · intro hy
    exact Finset.mem_map.mpr ⟨ix2 (y 1).val (y 2).val (y 1).isLt (y 2).isLt, Finset.mem_univ _, slotMG_emb h s e _ y hy rfl rfl⟩

/-- The elements that output slot `s` names. -/
theorem slotMB_set {off : Fin 3 → ℕ} (h) (s : ℕ) (e : off = ![s, 0, 0]) : (slotMB off h).view.set = slotB s := by
  ext y
  rw [mem_slotB]
  constructor
  · intro hy
    obtain ⟨x, -, hx⟩ := Finset.mem_map.mp hy
    have hs : s < 3 := by have := h 0; rw [e] at this; change s + 1 ≤ 3 at this; omega
    rw [slotMB_emb h s e x (ix3 s (x 0).val (x 1).val hs (x 0).isLt (x 1).isLt) rfl rfl rfl] at hx
    rw [← hx]
  · intro hy
    exact Finset.mem_map.mpr ⟨ix2 (y 1).val (y 2).val (y 1).isLt (y 2).isLt, Finset.mem_univ _, slotMB_emb h s e _ y hy rfl rfl⟩

/-- Eighty rows of the result from row `80 n` are chunk `n`. -/
theorem outM_set {off : Fin 2 → ℕ} (h) (n : ℕ) (e : off = ![80 * n, 0]) : (outM off h).view.set = chunkSet n := by
  subst e
  ext y
  rw [mem_chunkSet, show (outM ![80 * n, 0] h).view.set = (Rect.unit (s := S819200x64) ![80 * n, 0] S80x64.size h).set from View.set_slice_whole _ _,
    Rect.mem_set_unit]
  constructor
  · intro hy; exact hy 0
  · intro hy a
    fin_cases a
    · exact hy
    · exact ⟨Nat.zero_le _, by have := (y 1).isLt; show (y 1).val < 0 + 64; change (y 1).val < 64 at this; omega⟩

/-- The gathers' table names every element of the array. -/
theorem tableM_set : (tableM).view.set = Finset.univ := by
  ext y
  rw [show (tableM).view.set = (Rect.unit (s := S1000000x128) ![0, 0] S1000000x128.size inb_S1000000x128_S1000000x128_0_0).set from View.set_slice_whole _ _,
    Rect.mem_set_unit]
  refine ⟨fun _ => Finset.mem_univ _, fun _ a => ?_⟩
  have := (y a).isLt
  fin_cases a
  · exact ⟨Nat.zero_le _, by show (y 0).val < 0 + 1000000; change (y 0).val < 1000000 at this; omega⟩
  · exact ⟨Nat.zero_le _, by show (y 1).val < 0 + 128; change (y 1).val < 128 at this; omega⟩

/-! ## The four steps -/

section Steps

variable [FloatOps F] (d : Dev nD) (L : grid2.Coords)

/-- What one gather, and one chunk's copy, raises its semaphore by. -/
abbrev NG : ℕ := (slotMG ![0, 0, 0] (fun a => by fin_cases a <;> decide)).view.dmaCredit
/-- What one chunk's copy out raises its semaphore by. -/
abbrev NB : ℕ := (outM ![0, 0] (fun a => by fin_cases a <;> decide)).view.dmaCredit

/-- The contents a gather of chunk `c` leaves in slot `s`: row `r` is the table's row named by index `80·c + r`. -/
def Gathered (tab : S1000000x128.Idx → F .f32) (fI : S25600.Idx → BitVec 32) (s c : ℕ) (f : S5x80x128.Idx → F .f32) : Prop :=
  ∀ (y : S5x80x128.Idx) (u : S25600.Idx) (t : S1000000x128.Idx), (y 0).val = s → (u 0).val = 80 * c + (y 1).val →
    (t 0).val = (fI u).toNat → (t 1).val = (y 2).val → f y = tab t

/-- The shares of the table and of the tile's indices a gather reads under. -/
def gHeld (tab : S1000000x128.Idx → F .f32) (fI : S25600.Idx → BitVec 32) (qT qI : PosShare TreeShare) : sProp (MT nD τ sig (HIx 1) (Elt F) ℕ UU ℕ) :=
  iprop(((mT).view.loc (thr d L) ↦[Finset.univ]{qT} tab) ∗ ((mI).view.loc (thr d L) ↦[Finset.univ]{qI} fI))

/-- Gather slot `s` with chunk `c` on its way into it. -/
def gFlight (tab : S1000000x128.Idx → F .f32) (fI : S25600.Idx → BitVec 32) (qT qI : PosShare TreeShare) (s : Fin 5) (c : ℕ) :
    sProp (MT nD τ sig (HIx 1) (Elt F) ℕ UU ℕ) :=
  Transfers.Flight countersEmb (thr d L) (SemLoc.dma (gsem s)) (default : HIx 1) NG
    iprop((∃ f : S5x80x128.Idx → F .f32, ⌜Gathered tab fI s.val c f⌝ ∗ ((mG).view.loc (thr d L) ↦[slotG s.val]{fullShare} f)) ∗ gHeld d L tab fI qT qI)

/-- Output slot `s` with chunk `n` on its way out of it, `g` being what the result is to hold there. -/
def oFlight (g : S819200x64.Idx → F .f32) (s : Fin 3) (n : ℕ) : sProp (MT nD τ sig (HIx 1) (Elt F) ℕ UU ℕ) :=
  Transfers.Flight countersEmb (thr d L) (SemLoc.dma (osem s)) (default : HIx 1) NB
    iprop(((mO).view.loc (thr d L) ↦[chunkSet n]{fullShare} g) ∗ (∃ f : S3x80x64.Idx → F .f32, (mB).view.loc (thr d L) ↦[slotB s.val]{fullShare} f))

/-- What the gather of chunk `c` writes into slot `s` is the table's rows that the chunk's indices name. -/
theorem gathered_write (tab : S1000000x128.Idx → F .f32) (fI : S25600.Idx → BitVec 32) (s c : ℕ)
    {oS : Fin 3 → ℕ} (hS) (eS : oS = ![s, 0, 0]) {oL : Fin 1 → ℕ} (hL) (eL : oL = ![80 * c])
    (f0 : S5x80x128.Idx → F .f32)
    (hin : ∀ x, ((listM oL hL).view.read (Elt F) fI x).toNat < S1000000x128.size (gathers_S1000000x128_S80x128).axis)
    (hn : S80.numel = S80x128.size (gathers_S1000000x128_S80x128).axis') :
    Gathered tab fI s c ((slotMG oS hS).view.write (Elt F) f0
      (SparseCore.gatherPayload gathers_S1000000x128_S80x128 ((tableM).view.read (Elt F) tab)
        (SparseCore.rows ((listM oL hL).view.read (Elt F) fI) hn hin)) Finset.univ) := by
  intro y u t hy hu ht0 ht1
  have ey := slotMG_emb hS s eS (ix2 (y 1).val (y 2).val (y 1).isLt (y 2).isLt) y hy rfl rfl
  conv_lhs => rw [← ey]
  rw [View.write_emb, if_pos (Finset.mem_univ _)]
  show tab ((Rect.unit (s := S1000000x128) ![0, 0] S1000000x128.size inb_S1000000x128_S1000000x128_0_0).emb _) = tab t
  refine congrArg tab (Rect.emb_eq_of_coords _ _ _ fun a => ?_)
  fin_cases a
  · show (t 0).val = 0 + 1 * ((Shape.Gathers.idx gathers_S1000000x128_S80x128 _ _) (gathers_S1000000x128_S80x128).axis).val
    rw [Shape.Gathers.idx_axis, ht0]
    show _ = 0 + 1 * (fI _).toNat
    rw [Nat.zero_add, Nat.one_mul]
    refine congrArg (fun z => (fI z).toNat) ?_
    symm
    refine Rect.emb_eq_of_coords _ _ _ fun b => ?_
    subst eL
    fin_cases b
    show (u 0).val = 80 * c + 1 * ((S80.rowMajor.symm _) 0).val
    rw [hu, Nat.one_mul]
    congr 1
    have := Shape.rowMajor_val_one (S80.rowMajor.symm (Fin.cast hn.symm ((ix2 (y 1).val (y 2).val (y 1).isLt (y 2).isLt : S80x128.Idx) (gathers_S1000000x128_S80x128).axis')))
    rw [Equiv.apply_symm_apply] at this
    exact this
  · show (t 1).val = 0 + 1 * ((Shape.Gathers.idx gathers_S1000000x128_S80x128 _ _) (1 : Fin 2)).val
    rw [Shape.Gathers.idx_of_ne _ _ _ _ (by decide), ht1]
    show _ = 0 + 1 * (y 2).val
    omega

/-- Starting a gather: an idle slot, shares of the table and of the index list, and a semaphore at zero make a gather under way. -/
theorem gather_wp (tab : S1000000x128.Idx → F .f32) (fI : S25600.Idx → BitVec 32) (hfI : ∀ u, (fI u).toNat < 1000000) (qT qI : PosShare TreeShare)
    (s : Fin 5) (c : ℕ)
    {oS : Fin 3 → ℕ} (hS) (eS : oS = ![s.val, 0, 0]) {oL : Fin 1 → ℕ} (hL) (eL : oL = ![80 * c]) {oM : Fin 1 → ℕ} (hM) (eM : oM = ![s.val])
    {hs1 hs2 hs3 hs4 hs5 hs6} (Q : PUnit → sProp 𝕄) :
    iprop((gHeld d L tab fI qT qI ∗ (∃ f0, (mG).view.loc (thr d L) ↦[slotG s.val]{fullShare} f0) ∗ semVal (thr d L, SemLoc.dma (gsem s)) 0)
        ∗ (gFlight d L tab fI qT qI s c -∗ Q ⟨⟩))
      ⊢ wp frame (wpE (defs₀ (F := F)) 𝒱₀ (thr d L) none) Set.univ
          (SparseCore.enqueueIndirectGather hs1 tableM (slotMG oS hS) gathers_S1000000x128_S80x128 (listM oL hL) hs2 (semMG oM hM) hs3 hs4 hs5 hs6) Q := by
  have hin : ∀ x, ((listM oL hL).view.read (Elt F) fI x).toNat < S1000000x128.size (gathers_S1000000x128_S80x128).axis := fun x => hfI _
  have hN : ∀ h : S1000000x128.Gathers 0 S80x128, ∑ j, ((slotMG oS hS).slice (S80x128.rowRect h.axis' j) (S80x128.stride_rowRect h.axis' j)).view.dmaCredit = NG :=
    fun h => SparseCore.sum_rowCredit_eq_dmaCredit (slotMG oS hS) h.axis' (fun s' => rfl)
  rw [semMG_eq hM s eM]
  unfold gHeld
  iintro ⟨⟨⟨HT, HI⟩, ⟨%f0, HG⟩, HS⟩, Hk⟩
  ihave HG' := (Entails.of_eq (show ((mG).view.loc (thr d L) ↦[slotG s.val]{fullShare} f0 : sProp 𝕄)
      = (slotMG oS hS).view.loc (thr d L) ↦[(slotMG oS hS).view.set]{fullShare} f0 by rw [slotMG_set hS s.val eS])) $$ HG
  ihave HT' := (Entails.of_eq (show ((mT).view.loc (thr d L) ↦[Finset.univ]{qT} tab : sProp 𝕄)
      = (tableM).view.loc (thr d L) ↦[(tableM).view.set]{qT} tab by rw [tableM_set])) $$ HT
  ihave HIs := (pointsTo_split_subset (ℓ := (mI).view.loc (thr d L)) (q := qI) (f := fI) (S := Finset.univ) (Finset.subset_univ (listM oL hL).view.set)).1 $$ HI
  icases HIs with ⟨HI1, HI2⟩
  iapply (SparseCore.wp_indirectGatherLocal countersEmb 𝒱₀ (thr d L) none (hg := gathers_S1000000x128_S80x128) (default : HIx 1)
      NG (hN _) (by decide) hin (hp := hs1) (hn := hs2) (hsrc := hs3) (he := hs4) (hsp := hs5) (hr := hs6) (k := Prog.ret)) $$ [HT' HG' HI1 HS]
  · isplitl [HT']; · iexact HT'
    isplitl [HG']; · iexact HG'
    isplitl [HI1]; · iexact HI1
    iexact HS
  iintro Hfl
  rw [wp_ret]; imodintro
  iapply Hk
  unfold gFlight
  ihave Hc := (flight_carry (F := F)) $$ [Hfl HI2]
  · isplitl [Hfl]; · iexact Hfl
    iexact HI2
  iapply (Transfers.Flight_mono countersEmb (thr d L) ?_) $$ Hc
  iintro ⟨⟨HG, HT, HI1⟩, HI2⟩
  isplitl [HG]
  · iexists _
    isplitr; rotate_left
    · iapply (Entails.of_eq (show ((slotMG oS hS).view.loc (thr d L) ↦[(slotMG oS hS).view.set]{fullShare} _ : sProp 𝕄)
          = (mG).view.loc (thr d L) ↦[slotG s.val]{fullShare} _ by rw [slotMG_set hS s.val eS])) $$ HG
    · ipureintro; exact gathered_write tab fI s.val c hS eS hL eL f0 hin _
  · unfold gHeld
    isplitl [HT]
    · iapply (Entails.of_eq (show ((tableM).view.loc (thr d L) ↦[(tableM).view.set]{qT} tab : sProp 𝕄)
        = (mT).view.loc (thr d L) ↦[Finset.univ]{qT} tab by rw [tableM_set])) $$ HT
    · iapply (pointsTo_split_subset (ℓ := (mI).view.loc (thr d L)) (q := qI) (f := fI) (S := Finset.univ) (Finset.subset_univ (listM oL hL).view.set)).2
      isplitl [HI1]; · iexact HI1
      iexact HI2

/-- Waiting for a gather gives back its shares and the slot, which holds the chunk's rows. -/
theorem gwait_wp (tab : S1000000x128.Idx → F .f32) (fI : S25600.Idx → BitVec 32) (qT qI : PosShare TreeShare)
    (s : Fin 5) (c : ℕ) {oS : Fin 3 → ℕ} (hS) {oM : Fin 1 → ℕ} (hM) (eM : oM = ![s.val]) (O : CellTallies nD τ sig (HIx 1)) (W : Waits sig (HIx 1))
    {h1 h2} (Q : PUnit → sProp 𝕄) :
    iprop((gFlight d L tab fI qT qI s c ∗ owes (thr d L) O W ∗ Transfers.MayWaits (thr d L) (default : HIx 1) O)
        ∗ (((∃ f : S5x80x128.Idx → F .f32, ⌜Gathered tab fI s.val c f⌝ ∗ ((mG).view.loc (thr d L) ↦[slotG s.val]{fullShare} f)) ∗ gHeld d L tab fI qT qI
              ∗ semVal (thr d L, SemLoc.dma (gsem s)) 0 ∗ owes (thr d L) O (insert (SemLoc.dma (gsem s), (default : HIx 1)) W)) -∗ Q ⟨⟩))
      ⊢ wp frame (wpE (defs₀ (F := F)) 𝒱₀ (thr d L) none) Set.univ
          (SparseCore.waitIndirectGather (semMG oM hM) tableM (slotMG oS hS) h1 h2) Q := by
  rw [semMG_eq hM s eM]
  unfold gFlight
  iintro ⟨⟨Hfl, HO, #Hmw⟩, Hk⟩
  unfold SparseCore.waitIndirectGather
  iapply (Transfers.wp_waitLocalO countersEmb 𝒱₀ (thr d L) none (default : HIx 1) (rfl : (slotMG oS hS).view.dmaCredit = NG)) $$ [Hfl HO]
  · isplitl [Hfl]; · iexact Hfl
    isplitl [HO]; · iexact HO
    iapply (Transfers.MayWaits.elim (SemLoc.dma (gsem s))) $$ Hmw
  iintro ⟨⟨HG, HH⟩, HS, HO⟩
  rw [wp_ret]; imodintro
  iapply Hk
  isplitl [HG]; · iexact HG
  isplitl [HH]; · iexact HH
  isplitl [HS]; · iexact HS
  iexact HO

/-- Starting a chunk's copy out of a slot that holds the result's values makes that copy under way. -/
theorem out_wp (g : S819200x64.Idx → F .f32) (s : Fin 3) (n : ℕ) (f9 : S3x80x64.Idx → F .f32)
    (hval : ∀ (x : S819200x64.Idx) (y : S3x80x64.Idx), (y 0).val = s.val → (x 0).val = 80 * n + (y 1).val → (x 1).val = (y 2).val → f9 y = g x)
    {oS : Fin 3 → ℕ} (hS) (eS : oS = ![s.val, 0, 0]) {oD : Fin 2 → ℕ} (hD) (eD : oD = ![80 * n, 0]) {oM : Fin 1 → ℕ} (hM) (eM : oM = ![s.val])
    {h1 h2 h3} (Q : PUnit → sProp 𝕄) :
    iprop((((mB).view.loc (thr d L) ↦[slotB s.val]{fullShare} f9) ∗ (∃ f0, (mO).view.loc (thr d L) ↦[chunkSet n]{fullShare} f0)
          ∗ semVal (thr d L, SemLoc.dma (osem s)) 0)
        ∗ (oFlight d L g s n -∗ Q ⟨⟩))
      ⊢ wp frame (wpE (defs₀ (F := F)) 𝒱₀ (thr d L) none) Set.univ
          (.op (TpuEff.enqueueDma (slotMB oS hS) (.here (outM oD hD)) (.dma (semMB oM hM)) h1 h2 h3) Prog.ret) Q := by
  have hsem := semMB_eq hM s eM
  revert h3
  generalize semMB oM hM = z at hsem ⊢
  subst hsem
  intro h3
  iintro ⟨⟨HB, ⟨%f0, HD⟩, HS⟩, Hk⟩
  ihave HB' := (Entails.of_eq (show ((mB).view.loc (thr d L) ↦[slotB s.val]{fullShare} f9 : sProp 𝕄)
      = (slotMB oS hS).view.loc (thr d L) ↦[(slotMB oS hS).view.set]{fullShare} f9 by rw [slotMB_set hS s.val eS])) $$ HB
  ihave HD' := (Entails.of_eq (show ((mO).view.loc (thr d L) ↦[chunkSet n]{fullShare} f0 : sProp 𝕄)
      = (outM oD hD).view.loc (thr d L) ↦[(outM oD hD).view.set]{fullShare} f0 by rw [outM_set hD n eD])) $$ HD
  iapply (Transfers.wp_dmaLocal countersEmb 𝒱₀ (thr d L) none (default : HIx 1) NB (rfl : (outM oD hD).view.amount (.dma (osem s)) = NB)
      (by decide) (Finset.Subset.refl _)) $$ [HB' HD' HS]
  · isplitl [HB']; · iexact HB'
    isplitl [HD']; · iexact HD'
    iexact HS
  iintro Hfl
  rw [wp_ret]; imodintro
  iapply Hk
  unfold oFlight
  iapply (Transfers.Flight_mono countersEmb (thr d L) ?_) $$ Hfl
  iintro ⟨HD, HB⟩
  isplitl [HD]
  · iapply (Entails.of_eq ?_) $$ HD
    show ((outM oD hD).view.loc (thr d L) ↦[(outM oD hD).view.set]{fullShare} _ : sProp 𝕄) = ((outM oD hD).view.loc (thr d L) ↦[chunkSet n]{fullShare} g)
    rw [outM_set hD n eD]
    refine pointsTo_congr fun x hx => ?_
    rw [← outM_set hD n eD] at hx
    obtain ⟨z, -, hz⟩ := Finset.mem_map.mp hx
    rw [← hz, View.write_emb, if_pos (Finset.mem_univ _)]
    have hs3 := s.isLt
    show f9 ((slotMB oS hS).view.emb z) = g ((outM oD hD).view.emb z)
    rw [slotMB_emb hS s.val eS z (ix3 s.val (z 0).val (z 1).val hs3 (z 0).isLt (z 1).isLt) rfl rfl rfl]
    subst eD
    exact hval _ _ rfl (by show 80 * n + 1 * (z 0).val = 80 * n + (z 0).val; omega) (by show 0 + 1 * (z 1).val = (z 1).val; omega)
  · iexists f9
    iapply (Entails.of_eq (show ((slotMB oS hS).view.loc (thr d L) ↦[(slotMB oS hS).view.set]{fullShare} f9 : sProp 𝕄)
      = ((mB).view.loc (thr d L) ↦[slotB s.val]{fullShare} f9) by rw [slotMB_set hS s.val eS])) $$ HB

/-- Waiting for a copy out gives back the slot, and the chunk of the result at its values. -/
theorem owait_wp (g : S819200x64.Idx → F .f32) (s : Fin 3) (n : ℕ) {oS : Fin 3 → ℕ} (hS) {oD : Fin 2 → ℕ} (hD)
    {oM : Fin 1 → ℕ} (hM) (eM : oM = ![s.val]) (O : CellTallies nD τ sig (HIx 1)) (W : Waits sig (HIx 1)) {h1 h2} (Q : PUnit → sProp 𝕄) :
    iprop((oFlight d L g s n ∗ owes (thr d L) O W ∗ Transfers.MayWaits (thr d L) (default : HIx 1) O)
        ∗ ((((mO).view.loc (thr d L) ↦[chunkSet n]{fullShare} g) ∗ (∃ f : S3x80x64.Idx → F .f32, (mB).view.loc (thr d L) ↦[slotB s.val]{fullShare} f)
              ∗ semVal (thr d L, SemLoc.dma (osem s)) 0 ∗ owes (thr d L) O (insert (SemLoc.dma (osem s), (default : HIx 1)) W)) -∗ Q ⟨⟩))
      ⊢ wp frame (wpE (defs₀ (F := F)) 𝒱₀ (thr d L) none) Set.univ
          (.op (TpuEff.waitDma2 (semMB oM hM) (slotMB oS hS) (outM oD hD) h1 h2) Prog.ret) Q := by
  rw [semMB_eq hM s eM]
  unfold oFlight
  iintro ⟨⟨Hfl, HO, #Hmw⟩, Hk⟩
  iapply (Transfers.wp_waitLocalO countersEmb 𝒱₀ (thr d L) none (default : HIx 1) (rfl : (outM oD hD).view.dmaCredit = NB)) $$ [Hfl HO]
  · isplitl [Hfl]; · iexact Hfl
    isplitl [HO]; · iexact HO
    iapply (Transfers.MayWaits.elim (SemLoc.dma (osem s))) $$ Hmw
  iintro ⟨⟨HD, HB⟩, HS, HO⟩
  rw [wp_ret]; imodintro
  iapply Hk
  isplitl [HD]; · iexact HD
  isplitl [HB]; · iexact HB
  isplitl [HS]; · iexact HS
  iexact HO

end Steps

end Cert.Proof

end
-- ==== Proof.Chunk.lean ====
/-
  One chunk: the output slot freed, the gather awaited, its rows summed, the slot's copy begun, the next gather begun.
-/
module

public import proofs.«01_k».proof.Proof.Copies

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Trip

variable [FloatOps F] (d : Dev nD) (L : grid2.Coords)
variable (tab : S1000000x128.Idx → F .f32) (fI : S25600.Idx → BitVec 32) (en : S12800.Idx → F .f32) (g : S819200x64.Idx → F .f32)
variable (qT qI : Fin 5 → PosShare TreeShare)

/-- The tile's number among the thirty-two, and the first of its 320 chunks. -/
abbrev wid : ℕ := 2 * (L 1).val + (L 0).val
/-- The number of the tile's first chunk. -/
abbrev base : ℕ := 320 * wid L

/-- What the result is to hold on the tile's rows: the table's row the index names plus the position's encoding. -/
def Sums : Prop :=
  ∀ (x : S819200x64.Idx) (u : S25600.Idx) (t : S1000000x128.Idx) (z : S12800.Idx), (x 0).val = 25600 * wid L + (u 0).val →
    (t 0).val = (fI u).toNat → (t 1).val = (x 1).val → (z 0).val = (u 0).val % 200 * 64 + (x 1).val →
    g x = FloatOps.addf (φ := .f32) (tab t) (en z)

/-- The two rings' slots of chunk `k`. -/
abbrev sg (k : ℕ) : Fin 5 := ⟨k % 5, Nat.mod_lt _ (by decide)⟩
/-- The output slot of chunk `k`. -/
abbrev sb (k : ℕ) : Fin 3 := ⟨k % 3, Nat.mod_lt _ (by decide)⟩

/-- An idle gather slot, an idle output slot. -/
def gIdle (s : Fin 5) : sProp (MT nD τ sig (HIx 1) (Elt F) ℕ UU ℕ) :=
  iprop(gHeld d L tab fI (qT s) (qI s) ∗ (∃ f0 : S5x80x128.Idx → F .f32, (mG).view.loc (thr d L) ↦[slotG s.val]{fullShare} f0)
    ∗ semVal (thr d L, SemLoc.dma (gsem s)) 0)
/-- An idle output slot: its elements at some contents, and its semaphore at zero. -/
def oIdle (s : Fin 3) : sProp (MT nD τ sig (HIx 1) (Elt F) ℕ UU ℕ) :=
  iprop((∃ f0 : S3x80x64.Idx → F .f32, (mB).view.loc (thr d L) ↦[slotB s.val]{fullShare} f0) ∗ semVal (thr d L, SemLoc.dma (osem s)) 0)

/-- Gather slot `s`, whose next chunk to be summed is `n`; output slot `s`, whose next chunk to be summed is `n`. -/
def gSlot (s : Fin 5) (n : ℕ) : sProp (MT nD τ sig (HIx 1) (Elt F) ℕ UU ℕ) :=
  if n < 320 then gFlight d L tab fI (qT s) (qI s) s n else gIdle d L tab fI qT qI s
/-- Output slot `s` when the next chunk it serves is `n`: the copy of chunk `n - 3` is under way, or it is idle as yet. -/
def oSlot (s : Fin 3) (n : ℕ) : sProp (MT nD τ sig (HIx 1) (Elt F) ℕ UU ℕ) :=
  if 3 ≤ n then oFlight d L g s (base L + (n - 3)) else oIdle d L s

/-- Chunk `n` of the tile's part of the result, summed; and whatever it holds. -/
def summed (n : ℕ) : sProp (MT nD τ sig (HIx 1) (Elt F) ℕ UU ℕ) := (mO).view.loc (thr d L) ↦[chunkSet (base L + n)]{fullShare} g

/-- The waits recorded are those found and waits on the tile's own copies. -/
abbrev oweW (O : CellTallies nD τ sig (HIx 1)) (W : Waits sig (HIx 1)) : sProp (MT nD τ sig (HIx 1) (Elt F) ℕ UU ℕ) :=
  iprop(∃ W' : Waits sig (HIx 1), ⌜∀ p ∈ W', p ∈ W ∨ p.2 = none⌝ ∗ owes (thr d L) O W')

/-- A record of waits that only grew by waits without a launch still does so with one more such wait. -/
theorem insert_ok {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact Or.inr rfl
  · exact h p hp

/-- Chunk `k` of the tile is written at row `80 * (base + k)` of the result. -/
theorem off17_wid (k : Fin k2_t1_loop.trips) : k2_off17 L k = ![80 * (base L + k.val), 0] := by
  rw [Cert.KernelIdeal.Gen.k2_off17_eq]
  congr 1
  show 51200 * (L 1).val + 25600 * (L 0).val + 80 * k.val = 80 * (320 * (2 * (L 1).val + (L 0).val) + k.val)
  omega

/-- The output slot's wait of the copy three chunks back, if there was one. -/
def freed (n : ℕ) : sProp (MT nD τ sig (HIx 1) (Elt F) ℕ UU ℕ) := if 3 ≤ n then summed d L g (n - 3) else iprop(emp)

/-- The chunk once its output slot is free: the gather awaited, the rows summed, the slot's copy begun. -/
def restProg (v2 : BitVec 32) (k : Fin k2_t1_loop.trips) :
    Prog (TpuEff nD τ sig (Elt F) Λ₀ (.scVector ((L 0).castLE hcore2) ((L 1).castLE hsub2))) (BitVec 32) := do
  SparseCore.waitIndirectGather (semMG (k2_off6 k) (k2_off6_inb k)) tableM (slotMG (k2_off5 k) (k2_off5_inb k)) (View.wordExact_bits rfl)
    ((View.wordExact_bits rfl).reshape _ _)
  let _ ← Scf.Loop.for k2_t2_loop k2_t2_ok (firstOff k) (rowBody (F := F) L v2 k (Scalar.remsi (Scf.iv 0#32 1#32 k) 5#32) (Scalar.remsi (Scf.iv 0#32 1#32 k) 3#32))
  Prog.lift (.enqueueDma (slotMB (k2_off16 k) (k2_off16_inb k)) (.here (outM (k2_off17 L k) (k2_off17_inb L k))) (.dma (semMB (k2_off18 k) (k2_off18_inb k)))
    ((View.wordExact_bits rfl).reshape _ _) (View.wordExact_bits rfl) ⟨Or.inl rfl, trivial⟩)
  pure (Scf.iv 0#32 1#32 k)

/-- Once all 80 rows of a chunk are summed, the output slot holds the result's values on that chunk. -/
theorem chunk_sums (hfI : ∀ u, (fI u).toNat < 1000000) (hg : Sums L tab fI en g) (k : Fin k2_t1_loop.trips)
    (f8 : S5x80x128.Idx → F .f32) (f9 : S3x80x64.Idx → F .f32) (h8 : Gathered tab fI (sg k.val).val k.val f8) (h9 : RowsTo en f8 k.val 80 f9)
    (x : S819200x64.Idx) (y : S3x80x64.Idx) (hy0 : (y 0).val = (sb k.val).val) (hx0 : (x 0).val = 80 * (base L + k.val) + (y 1).val)
    (hx1 : (x 1).val = (y 2).val) : f9 y = g x := by
  have hk : k.val < 320 := lt_of_lt_of_eq k.isLt trips1
  have hy1 : (y 1).val < 80 := (y 1).isLt
  have hy2 : (y 2).val < 64 := (y 2).isLt
  have hu : 80 * k.val + (y 1).val < 25600 := by omega
  have hz : (80 * k.val + (y 1).val) % 200 * 64 + (y 2).val < 12800 := by omega
  have h5 : k.val % 5 < 5 := Nat.mod_lt _ (by decide)
  have e1 := h9 (y 1).val hy1 y (ix3 (k.val % 5) (y 1).val (y 2).val h5 hy1 (by omega)) (ix1 _ hz) hy0 rfl rfl rfl rfl rfl
  have e2 := h8 (ix3 (k.val % 5) (y 1).val (y 2).val h5 hy1 (by omega)) (ix1 _ hu) (ix2 (fI (ix1 _ hu)).toNat (y 2).val (hfI _) (by omega)) rfl rfl rfl rfl
  rw [e1, e2]
  refine (hg x (ix1 _ hu) _ (ix1 _ hz) ?_ rfl hx1.symm ?_).symm
  · show (x 0).val = 25600 * wid L + (80 * k.val + (y 1).val)
    rw [hx0]; simp only [base]; omega
  · show (80 * k.val + (y 1).val) % 200 * 64 + (y 2).val = (80 * k.val + (y 1).val) % 200 * 64 + (x 1).val
    rw [hx1]

/-- A chunk's work from its gather's wait to its copy out: the output slot goes from idle to copying, the gather slot to idle. -/
theorem rest_wp (hfI : ∀ u, (fI u).toNat < 1000000) (hg : Sums L tab fI en g) (v2 : BitVec 32) (k : Fin k2_t1_loop.trips) (O : CellTallies nD τ sig (HIx 1)) (W : Waits sig (HIx 1))
    {Q : BitVec 32 → sProp (MT nD τ sig (HIx 1) (Elt F) ℕ UU ℕ)} :
    iprop((oIdle d L (sb k.val) ∗ gFlight d L tab fI (qT (sg k.val)) (qI (sg k.val)) (sg k.val) k.val
          ∗ ((mC).view.loc (thr d L) ↦[Finset.univ]{fullShare} en)
          ∗ (∃ f0 : S819200x64.Idx → F .f32, (mO).view.loc (thr d L) ↦[chunkSet (base L + k.val)]{fullShare} f0)
          ∗ oweW d L O W ∗ Transfers.MayWaits (thr d L) (default : HIx 1) O)
        ∗ (∀ a, (oFlight d L g (sb k.val) (base L + k.val) ∗ gIdle d L tab fI qT qI (sg k.val)
          ∗ ((mC).view.loc (thr d L) ↦[Finset.univ]{fullShare} en) ∗ oweW d L O W) -∗ Q a))
      ⊢ wp frame (wpE (defs₀ (F := F)) 𝒱₀ (thr d L) none) Set.univ (restProg L v2 k) Q := by
  unfold restProg
  simp only [wp_bind, wp_pure, Prog.lift]
  unfold oIdle
  iintro ⟨⟨⟨⟨%f9, HB⟩, HSo⟩, HG, HC, HO, ⟨%W1, %hW1, Hw⟩, #Hmw⟩, HQ⟩
  iapply (gwait_wp d L tab fI (qT (sg k.val)) (qI (sg k.val)) (sg k.val) k.val (k2_off5_inb k) (k2_off6_inb k) (k2_off6_eq k) O W1)
  isplitl [HG Hw]
  · isplitl [HG]; · iexact HG
    isplitl [Hw]; · iexact Hw
    iexact Hmw
  iintro ⟨⟨%f8, %h8, HG⟩, Hh, HSg, Hw⟩
  iapply (inner_wp d L v2 k _ _ en f8 f9)
  isplitl [HC]; · iexact HC
  isplitl [HG]; · iexact HG
  isplitl [HB]; · iexact HB
  iintro %a %f9' ⟨%h9, HC, HG, HB⟩
  iapply (out_wp d L g (sb k.val) (base L + k.val) f9' (chunk_sums L tab fI en g hfI hg k f8 f9' h8 h9) (k2_off16_inb k) (k2_off16_eq k) (k2_off17_inb L k) (off17_wid L k) (k2_off18_inb k) (k2_off18_eq k))
  isplitl [HB HO HSo]
  · isplitl [HB]; · iexact HB
    isplitl [HO]; · iexact HO
    iexact HSo
  iintro Hfl
  imodintro
  iapply HQ
  isplitl [Hfl]; · iexact Hfl
  isplitl [HG Hh HSg]
  · unfold gIdle
    isplitl [Hh]; · iexact Hh
    isplitl [HG]; · iexists f8; iexact HG
    iexact HSg
  isplitl [HC]; · iexact HC
  iexists _
  isplitr; rotate_left
  · iexact Hw
  · ipureintro; exact insert_ok hW1 _

/-- From the fourth chunk on, a chunk's work is a wait for the output slot's earlier copy and then the rest. -/
theorem part2_pos (v2 : BitVec 32) (k : Fin k2_t1_loop.trips) (hc : k2_cond1 k = 1#1) :
    k2_part2 (F := F) L mT (Memref.isWhole_whole _) mX (Memref.isWhole_whole _) mE (Memref.isWhole_whole _) mO (Memref.isWhole_whole _)
            mI (Memref.isWhole_whole _) mC (Memref.isWhole_whole _) mG (Memref.isWhole_whole _) mB (Memref.isWhole_whole _)
            cc2_scratch4 cc2_scratch5 cc2_scoped0 cc2_scoped1 v2 0#32 1#32 k
      = ((Prog.op (TpuEff.waitDma2 (semMB (k2_off4 k) (k2_off4_inb k hc)) (slotMB (k2_off2 k) (k2_off2_inb k hc)) (outM (k2_off3 L) (k2_off3_inb L k hc))
      ((View.wordExact_bits rfl).reshape _ _) (View.wordExact_bits rfl)) Prog.ret :
        Prog (TpuEff nD τ sig (Elt F) Λ₀ (.scVector ((L 0).castLE hcore2) ((L 1).castLE hsub2))) PUnit) >>= fun _ => restProg L v2 k) := by
  rw [k2_part2_eq_skeleton]
  unfold k2_part2_skel
  simp only [dif_pos hc]
  rfl

/-- In the first three chunks no earlier copy is waited for. -/
theorem part2_neg (v2 : BitVec 32) (k : Fin k2_t1_loop.trips) (hc : ¬ k2_cond1 k = 1#1) :
    k2_part2 (F := F) L mT (Memref.isWhole_whole _) mX (Memref.isWhole_whole _) mE (Memref.isWhole_whole _) mO (Memref.isWhole_whole _)
            mI (Memref.isWhole_whole _) mC (Memref.isWhole_whole _) mG (Memref.isWhole_whole _) mB (Memref.isWhole_whole _)
            cc2_scratch4 cc2_scratch5 cc2_scoped0 cc2_scoped1 v2 0#32 1#32 k = restProg L v2 k := by
  rw [k2_part2_eq_skeleton]
  unfold k2_part2_skel
  simp only [dif_neg hc]
  rfl

/-- A chunk's work in either case: the slot's earlier chunk, if there is one, has landed and is handed over. -/
theorem part2_wp (hfI : ∀ u, (fI u).toNat < 1000000) (hg : Sums L tab fI en g) (v2 : BitVec 32) (k : Fin k2_t1_loop.trips) (O : CellTallies nD τ sig (HIx 1)) (W : Waits sig (HIx 1))
    {Q : BitVec 32 → sProp (MT nD τ sig (HIx 1) (Elt F) ℕ UU ℕ)} :
    iprop((oSlot d L g (sb k.val) k.val ∗ gFlight d L tab fI (qT (sg k.val)) (qI (sg k.val)) (sg k.val) k.val
          ∗ ((mC).view.loc (thr d L) ↦[Finset.univ]{fullShare} en)
          ∗ (∃ f0 : S819200x64.Idx → F .f32, (mO).view.loc (thr d L) ↦[chunkSet (base L + k.val)]{fullShare} f0)
          ∗ oweW d L O W ∗ Transfers.MayWaits (thr d L) (default : HIx 1) O)
        ∗ (∀ a, (oFlight d L g (sb k.val) (base L + k.val) ∗ freed d L g k.val ∗ gIdle d L tab fI qT qI (sg k.val)
          ∗ ((mC).view.loc (thr d L) ↦[Finset.univ]{fullShare} en) ∗ oweW d L O W) -∗ Q a))
      ⊢ wp frame (wpE (defs₀ (F := F)) 𝒱₀ (thr d L) none) Set.univ
          (k2_part2 (F := F) L mT (Memref.isWhole_whole _) mX (Memref.isWhole_whole _) mE (Memref.isWhole_whole _) mO (Memref.isWhole_whole _)
            mI (Memref.isWhole_whole _) mC (Memref.isWhole_whole _) mG (Memref.isWhole_whole _) mB (Memref.isWhole_whole _)
            cc2_scratch4 cc2_scratch5 cc2_scoped0 cc2_scoped1 v2 0#32 1#32 k) Q := by
  by_cases hc : k2_cond1 k = 1#1
  · have h3 : 3 ≤ k.val := (cond1_iff k).mp hc
    rw [part2_pos L v2 k hc]
    rw [wp_bind]
    unfold oSlot freed
    rw [if_pos h3, if_pos h3]
    iintro ⟨⟨HS, HG, HC, HO, ⟨%W1, %hW1, Hw⟩, #Hmw⟩, HQ⟩
    iapply (owait_wp d L g (sb k.val) (base L + (k.val - 3)) (k2_off2_inb k hc) (k2_off3_inb L k hc) (k2_off4_inb k hc) (k2_off4_eq k) O W1)
    isplitl [HS Hw]
    · isplitl [HS]; · iexact HS
      isplitl [Hw]; · iexact Hw
      iexact Hmw
    iintro ⟨Hd, HB, HSo, Hw⟩
    iapply (rest_wp d L tab fI en g qT qI hfI hg v2 k O W)
    isplitl [HB HSo HG HC HO Hw]
    · isplitl [HB HSo]
      · unfold oIdle
        isplitl [HB]; · iexact HB
        iexact HSo
      isplitl [HG]; · iexact HG
      isplitl [HC]; · iexact HC
      isplitl [HO]; · iexact HO
      isplitl [Hw]
      · iexists _
        isplitr; rotate_left
        · iexact Hw
        · ipureintro; exact insert_ok hW1 _
      iexact Hmw
    iintro %a ⟨Hfl, HI, HC, HO⟩
    iapply HQ $$ %a
    isplitl [Hfl]; · iexact Hfl
    isplitl [Hd]
    · unfold summed
      iexact Hd
    isplitl [HI]; · iexact HI
    isplitl [HC]; · iexact HC
    iexact HO
  · have h3 : ¬ 3 ≤ k.val := fun h => hc ((cond1_iff k).mpr h)
    rw [part2_neg L v2 k hc]
    unfold oSlot freed
    rw [if_neg h3, if_neg h3]
    iintro ⟨⟨HS, HG, HC, HO, ⟨%W1, %hW1, Hw⟩, #Hmw⟩, HQ⟩
    iapply (rest_wp d L tab fI en g qT qI hfI hg v2 k O W)
    isplitl [HS HG HC HO Hw]
    · isplitl [HS]; · iexact HS
      isplitl [HG]; · iexact HG
      isplitl [HC]; · iexact HC
      isplitl [HO]; · iexact HO
      isplitl [Hw]
      · iexists W1
        isplitr; rotate_left
        · iexact Hw
        · ipureintro; exact hW1
      iexact Hmw
    iintro %a ⟨Hfl, HI, HC, HO⟩
    iapply HQ $$ %a
    isplitl [Hfl]; · iexact Hfl
    isplitr
    · iempintro
    isplitl [HI]; · iexact HI
    isplitl [HC]; · iexact HC
    iexact HO

end Trip

end Cert.Proof

end
-- ==== Proof.Loop.lean ====
/-
  The loop over the tile's 320 chunks: what the two rings hold between chunks, and one trip.
-/
module

public import proofs.«01_k».proof.Proof.Chunk

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Loop

variable [FloatOps F] (d : Dev nD) (L : grid2.Coords)
variable (tab : S1000000x128.Idx → F .f32) (fI : S25600.Idx → BitVec 32) (en : S12800.Idx → F .f32) (g : S819200x64.Idx → F .f32)
variable (qT qI : Fin 5 → PosShare TreeShare)

/-- The first chunk from `k` on that slot `s` of a ring of five (of three) takes. -/
abbrev nextG (k : ℕ) (s : Fin 5) : ℕ := k + (s.val + 5 - k % 5) % 5
/-- The next chunk, from chunk `k` on, that output slot `s` serves. -/
abbrev nextO (k : ℕ) (s : Fin 3) : ℕ := k + (s.val + 3 - k % 3) % 3

/-- Chunk `k` is the next that its own gather slot serves. -/
theorem nextG_self (k : ℕ) : nextG k (sg k) = k := by show k + (k % 5 + 5 - k % 5) % 5 = k; omega
/-- Chunk `k` is the next that its own output slot serves. -/
theorem nextO_self (k : ℕ) : nextO k (sb k) = k := by show k + (k % 3 + 3 - k % 3) % 3 = k; omega
/-- After chunk `k`, its gather slot serves chunk `k + 5`. -/
theorem nextG_after (k : ℕ) : nextG (k + 1) (sg k) = k + 5 := by show k + 1 + (k % 5 + 5 - (k + 1) % 5) % 5 = k + 5; omega
/-- After chunk `k`, its output slot serves chunk `k + 3`. -/
theorem nextO_after (k : ℕ) : nextO (k + 1) (sb k) = k + 3 := by show k + 1 + (k % 3 + 3 - (k + 1) % 3) % 3 = k + 3; omega
/-- The other gather slots serve the same chunk as before. -/
theorem nextG_other (k : ℕ) (s : Fin 5) (h : s ≠ sg k) : nextG (k + 1) s = nextG k s := by
  have h' : s.val ≠ k % 5 := fun e => h (Fin.ext e)
  have := s.isLt
  show k + 1 + (s.val + 5 - (k + 1) % 5) % 5 = k + (s.val + 5 - k % 5) % 5
  omega
/-- The other output slots serve the same chunk as before. -/
theorem nextO_other (k : ℕ) (s : Fin 3) (h : s ≠ sb k) : nextO (k + 1) s = nextO k s := by
  have h' : s.val ≠ k % 3 := fun e => h (Fin.ext e)
  have := s.isLt
  show k + 1 + (s.val + 3 - (k + 1) % 3) % 3 = k + (s.val + 3 - k % 3) % 3
  omega

/-- The rings before chunk `k`, and apart from the two slots chunk `k` takes. -/
def gRing (k : ℕ) : sProp (MT nD τ sig (HIx 1) (Elt F) ℕ UU ℕ) := bigSep Finset.univ fun s => gSlot d L tab fI qT qI s (nextG k s)
/-- The ring of output slots before chunk `k`. -/
def oRing (k : ℕ) : sProp (MT nD τ sig (HIx 1) (Elt F) ℕ UU ℕ) := bigSep Finset.univ fun s => oSlot d L g s (nextO k s)
/-- The gather slots other than chunk `k`'s. -/
def gRest (k : ℕ) : sProp (MT nD τ sig (HIx 1) (Elt F) ℕ UU ℕ) :=
  bigSep (Finset.univ.erase (sg k)) fun s => gSlot d L tab fI qT qI s (nextG k s)
/-- The output slots other than chunk `k`'s. -/
def oRest (k : ℕ) : sProp (MT nD τ sig (HIx 1) (Elt F) ℕ UU ℕ) := bigSep (Finset.univ.erase (sb k)) fun s => oSlot d L g s (nextO k s)

/-- The ring of gather slots before chunk `k`: the chunk's own slot and the others. -/
theorem gRing_now (k : ℕ) : gRing d L tab fI qT qI k = iprop(gSlot d L tab fI qT qI (sg k) k ∗ gRest d L tab fI qT qI k) := by
  unfold gRing gRest
  rw [SparseCore.bigSep_erase' (Finset.mem_univ (sg k)), nextG_self]
/-- The ring of gather slots after chunk `k`: its slot serves chunk `k + 5` and the others are as they were. -/
theorem gRing_after (k : ℕ) : gRing d L tab fI qT qI (k + 1) = iprop(gSlot d L tab fI qT qI (sg k) (k + 5) ∗ gRest d L tab fI qT qI k) := by
  unfold gRing gRest
  rw [SparseCore.bigSep_erase' (Finset.mem_univ (sg k)), nextG_after,
    bigSep_congr fun s hs => by rw [nextG_other k s (Finset.ne_of_mem_erase hs)]]
/-- The ring of output slots before chunk `k`: the chunk's own slot and the others. -/
theorem oRing_now (k : ℕ) : oRing d L g k = iprop(oSlot d L g (sb k) k ∗ oRest d L g k) := by
  unfold oRing oRest
  rw [SparseCore.bigSep_erase' (Finset.mem_univ (sb k)), nextO_self]
/-- The ring of output slots after chunk `k`: its slot serves chunk `k + 3` and the others are as they were. -/
theorem oRing_after (k : ℕ) : oRing d L g (k + 1) = iprop(oSlot d L g (sb k) (k + 3) ∗ oRest d L g k) := by
  unfold oRing oRest
  rw [SparseCore.bigSep_erase' (Finset.mem_univ (sb k)), nextO_after,
    bigSep_congr fun s hs => by rw [nextO_other k s (Finset.ne_of_mem_erase hs)]]

/-- The chunks whose copy has landed before chunk `k`, and those not begun. -/
def landed (k : ℕ) : sProp (MT nD τ sig (HIx 1) (Elt F) ℕ UU ℕ) := bigSep ((Finset.range 320).filter (· + 3 < k)) (summed d L g)
/-- The chunks of the result from `k` on, at any contents. -/
def unbegun (k : ℕ) : sProp (MT nD τ sig (HIx 1) (Elt F) ℕ UU ℕ) :=
  bigSep ((Finset.range 320).filter (k ≤ ·)) fun n => iprop(∃ f0 : S819200x64.Idx → F .f32, (mO).view.loc (thr d L) ↦[chunkSet (base L + n)]{fullShare} f0)

/-- After chunk `k` the chunks that have landed are those before and the one it waited for. -/
theorem landed_succ (k : ℕ) (hk : k < 320) : landed d L g (k + 1) = iprop(freed d L g k ∗ landed d L g k) := by
  unfold landed freed
  by_cases h : 3 ≤ k
  · rw [if_pos h, ← SparseCore.bigSep_insert' (by simp; omega)]
    congr 1
    ext p
    simp only [Finset.mem_filter, Finset.mem_range, Finset.mem_insert]
    omega
  · rw [if_neg h, show ((Finset.range 320).filter (· + 3 < k + 1)) = (Finset.range 320).filter (· + 3 < k) by
      ext p; simp only [Finset.mem_filter, Finset.mem_range]; omega]
    exact (emp_sep_eq _).symm
/-- The chunks from `k` on are chunk `k` and those from `k + 1` on. -/
theorem unbegun_now (k : ℕ) (hk : k < 320) : (unbegun (F := F) d L k)
    = iprop((∃ f0 : S819200x64.Idx → F .f32, (mO).view.loc (thr d L) ↦[chunkSet (base L + k)]{fullShare} f0) ∗ unbegun (F := F) d L (k + 1)) := by
  unfold unbegun
  rw [SparseCore.bigSep_erase' (i := k) (by simp [hk])]
  congr 2
  ext p
  simp only [Finset.mem_filter, Finset.mem_range, Finset.mem_erase]
  omega

/-- What the tile holds before chunk `k`. -/
def outerInv (O : CellTallies nD τ sig (HIx 1)) (W : Waits sig (HIx 1)) (k : ℕ) (_ : BitVec 32) : sProp (MT nD τ sig (HIx 1) (Elt F) ℕ UU ℕ) :=
  iprop(gRing d L tab fI qT qI k ∗ oRing d L g k ∗ ((mC).view.loc (thr d L) ↦[Finset.univ]{fullShare} en)
    ∗ landed d L g k ∗ unbegun (F := F) d L k ∗ oweW d L O W ∗ Transfers.MayWaits (thr d L) (default : HIx 1) O)

/-- One trip of the chunks' loop over the tile's buffers. -/
abbrev chunkBody (v2 : BitVec 32) :=
  k2_t1_body (F := F) L mT (Memref.isWhole_whole _) mX (Memref.isWhole_whole _) mE (Memref.isWhole_whole _) mO (Memref.isWhole_whole _)
    mI (Memref.isWhole_whole _) mC (Memref.isWhole_whole _) mG (Memref.isWhole_whole _) mB (Memref.isWhole_whole _)
    cc2_scratch4 cc2_scratch5 cc2_scoped0 cc2_scoped1 v2

/-- The further gather goes into chunk `k`'s own slot. -/
theorem off19_sg (k : Fin k2_t1_loop.trips) : k2_off19 k = ![(sg k.val).val, 0, 0] := k2_off19_eq k
/-- The further gather takes the indices of chunk `k + 5`. -/
theorem off20_at (k : Fin k2_t1_loop.trips) : k2_off20 k = ![80 * (k.val + 5)] := by
  rw [k2_off20_eq]; congr 1

/-- One turn of the loop over chunks carries its invariant from chunk `k` to chunk `k + 1`. -/
theorem chunk_step (hfI : ∀ u, (fI u).toNat < 1000000) (hg : Sums L tab fI en g) (v2 : BitVec 32) (O : CellTallies nD τ sig (HIx 1)) (W : Waits sig (HIx 1))
    (k : Fin k2_t1_loop.trips) (a : BitVec 32) :
    outerInv d L tab fI en g qT qI O W k.val a
      ⊢ wp frame (wpE (defs₀ (F := F)) 𝒱₀ (thr d L) none) Set.univ (chunkBody L v2 k a) (outerInv d L tab fI en g qT qI O W (k.val + 1)) := by
  have hk : k.val < 320 := lt_of_lt_of_eq k.isLt trips1
  unfold outerInv chunkBody k2_t1_body
  rw [gRing_now, gRing_after, oRing_now, oRing_after, landed_succ d L g k.val hk, unbegun_now d L k.val hk]
  rw [show gSlot d L tab fI qT qI (sg k.val) k.val = gFlight d L tab fI (qT (sg k.val)) (qI (sg k.val)) (sg k.val) k.val from if_pos hk,
    show oSlot d L g (sb k.val) (k.val + 3) = oFlight d L g (sb k.val) (base L + k.val) from if_pos (by omega)]
  by_cases hc : k2_cond2 k = 1#1
  · have h5 : k.val + 5 < 320 := (cond2_iff k).mp hc
    rw [show gSlot d L tab fI qT qI (sg k.val) (k.val + 5) = gFlight d L tab fI (qT (sg k.val)) (qI (sg k.val)) (sg k.val) (k.val + 5) from if_pos h5]
    simp only [dif_pos hc, wp_bind, wp_pure, Prog.lift]
    iintro ⟨⟨HG, HGs⟩, ⟨HB, HBs⟩, HC, Hd, ⟨HO, Hu⟩, Hw, #Hmw⟩
    iapply (part2_wp d L tab fI en g qT qI hfI hg v2 k O W)
    isplitl [HG HB HC HO Hw]
    · isplitl [HB]; · iexact HB
      isplitl [HG]; · iexact HG
      isplitl [HC]; · iexact HC
      isplitl [HO]; · iexact HO
      isplitl [Hw]; · iexact Hw
      iexact Hmw
    iintro %b ⟨HB, Hf, HG, HC, Hw⟩
    iapply (gather_wp d L tab fI hfI (qT (sg k.val)) (qI (sg k.val)) (sg k.val) (k.val + 5) (k2_off19_inb k hc) (off19_sg k) (k2_off20_inb k hc) (off20_at k)
      (k2_off21_inb k hc) (k2_off21_eq k))
    unfold gIdle
    isplitl [HG]; · iexact HG
    iintro HG
    imodintro
    isplitl [HG HGs]; · isplitl [HG] <;> iassumption
    isplitl [HB HBs]; · isplitl [HB] <;> iassumption
    isplitl [HC]; · iexact HC
    isplitl [Hf Hd]; · isplitl [Hf] <;> iassumption
    isplitl [Hu]; · iexact Hu
    isplitl [Hw]; · iexact Hw
    iexact Hmw
  · have h5 : ¬ k.val + 5 < 320 := fun h => hc ((cond2_iff k).mpr h)
    rw [show gSlot d L tab fI qT qI (sg k.val) (k.val + 5) = gIdle d L tab fI qT qI (sg k.val) from if_neg h5]
    simp only [dif_neg hc, wp_bind, wp_pure, Prog.lift]
    iintro ⟨⟨HG, HGs⟩, ⟨HB, HBs⟩, HC, Hd, ⟨HO, Hu⟩, Hw, #Hmw⟩
    iapply (part2_wp d L tab fI en g qT qI hfI hg v2 k O W)
    isplitl [HG HB HC HO Hw]
    · isplitl [HB]; · iexact HB
      isplitl [HG]; · iexact HG
      isplitl [HC]; · iexact HC
      isplitl [HO]; · iexact HO
      isplitl [Hw]; · iexact Hw
      iexact Hmw
    iintro %b ⟨HB, Hf, HG, HC, Hw⟩
    imodintro
    isplitl [HG HGs]; · isplitl [HG] <;> iassumption
    isplitl [HB HBs]; · isplitl [HB] <;> iassumption
    isplitl [HC]; · iexact HC
    isplitl [Hf Hd]; · isplitl [Hf] <;> iassumption
    isplitl [Hu]; · iexact Hu
    isplitl [Hw]; · iexact Hw
    iexact Hmw

/-- The chunks' loop. -/
theorem chunks_wp (hfI : ∀ u, (fI u).toNat < 1000000) (hg : Sums L tab fI en g) (v2 : BitVec 32) (O : CellTallies nD τ sig (HIx 1)) (W : Waits sig (HIx 1))
    {Q : BitVec 32 → sProp (MT nD τ sig (HIx 1) (Elt F) ℕ UU ℕ)} :
    iprop(outerInv d L tab fI en g qT qI O W 0 0#32 ∗ (∀ a, outerInv d L tab fI en g qT qI O W 320 a -∗ Q a))
      ⊢ wp frame (wpE (defs₀ (F := F)) 𝒱₀ (thr d L) none) Set.univ
          (Scf.Loop.for k2_t1_loop k2_t1_ok 0#32 (chunkBody (F := F) L v2)) Q := by
  have h := Scf.wp_for (Q := Q) _ _ _ _ _ _ k2_t1_ok 0#32 (chunkBody (F := F) L v2) (outerInv d L tab fI en g qT qI O W)
    (chunk_step d L tab fI en g qT qI hfI hg v2 O W)
  rw [show Scf.trips k2_t1_loop.lb k2_t1_loop.ub k2_t1_loop.st = 320 from trips1] at h
  exact h

end Loop

end Cert.Proof

end
-- ==== Proof.Own.lean ====
/-
  What a tile owns, taken apart: shares peeled off, the two rings' slots, its semaphores.
-/
module

public import proofs.«01_k».proof.Proof.Loop

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A share peeled -/

/-- What is left of a share after `n` halvings that each put a left half aside, and the half put aside by the next. -/
def rest (q : PosShare TreeShare) : ℕ → PosShare TreeShare
  | 0 => q
  | n + 1 => (rest q n).right
/-- The half that the halving after the first `n` puts aside. -/
def peel (q : PosShare TreeShare) (n : ℕ) : PosShare TreeShare := (rest q n).left

/-- Three conjuncts regrouped, the first two exchanged. -/
theorem sep_turn (A B C : sProp 𝕄) : iprop(A ∗ B ∗ C) = iprop((B ∗ A) ∗ C) := by
  have h1 : iprop(A ∗ B ∗ C) ⊢ iprop((B ∗ A) ∗ C) := by
    iintro ⟨HA, HB, HC⟩
    isplitl [HA HB]
    · isplitl [HB]; · iexact HB
      iexact HA
    iexact HC
  have h2 : iprop((B ∗ A) ∗ C) ⊢ iprop(A ∗ B ∗ C) := by
    iintro ⟨⟨HB, HA⟩, HC⟩
    isplitl [HA]; · iexact HA
    isplitl [HB]; · iexact HB
    iexact HC
  exact BI.Entails.antisymm h1 h2

/-- A points-to at a share is those at the first `n` halves put aside and the one at what is left. -/
theorem peeled {ℓ : Loc nD τ sig} (I : Finset (Idx ℓ)) (f : Buf (Elt F) ℓ) (q : PosShare TreeShare) (n : ℕ) :
    (ℓ ↦[I]{q} f : sProp 𝕄) = iprop((bigSep (Finset.range n) fun k => ℓ ↦[I]{peel q k} f) ∗ ℓ ↦[I]{rest q n} f) := by
  induction n with
  | zero => rw [Finset.range_zero, bigSep_empty]; exact (emp_sep_eq _).symm
  | succ n ih =>
    have hs := pointsTo_share (ℓ := ℓ) (I := I) (f := f) (Val := Elt F) (Ix := HIx 1) (Name := ℕ) (U := UU) (Lvl := ℕ) (PosShare.mem_left_op_right (rest q n))
    rw [ih, BI.Entails.antisymm hs.1 hs.2, Finset.range_add_one, SparseCore.bigSep_insert' Finset.notMem_range_self]
    exact sep_turn _ _ _

/-! ## The tile's buffers by slots, its semaphores by rings -/

/-- A conjunction over five, written out. -/
theorem fin5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
/-- A conjunction over three, written out. -/
theorem fin3 (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]
/-- A conjunction over the numbers below five, written out. -/
theorem range5 (Φ : ℕ → sProp 𝕄) : bigSep (Finset.range 5) Φ = iprop(Φ 0 ∗ Φ 1 ∗ Φ 2 ∗ Φ 3 ∗ Φ 4) := by
  rw [show Finset.range 5 = {0, 1, 2, 3, 4} by decide, SparseCore.bigSep_insert' (by decide), SparseCore.bigSep_insert' (by decide),
    SparseCore.bigSep_insert' (by decide), SparseCore.bigSep_insert' (by decide), bigSep_singleton]
/-- A conjunction over the numbers below five may be written either way. -/
theorem range5_fin5 (Φ : ℕ → sProp 𝕄) : bigSep (Finset.range 5) Φ = bigSep Finset.univ fun s : Fin 5 => Φ s.val := by
  rw [range5, fin5]; rfl

/-- A family of members of a set is taken out of a `bigSep` over it. -/
theorem take_family {I ι : Type} [DecidableEq I] [Fintype ι] (S : Finset I) (e : ι ↪ I) (h : ∀ i, e i ∈ S) (Φ : I → sProp 𝕄) :
    bigSep S Φ = iprop((bigSep Finset.univ fun i => Φ (e i)) ∗ bigSep (S \ Finset.univ.map e) Φ) := by
  rw [SparseCore.bigSep_sdiff_split' (t := Finset.univ.map e) (fun x hx => by obtain ⟨i, -, rfl⟩ := Finset.mem_map.mp hx; exact h i), bigSep_map]

section Own

open SparseCore.Cfg (ownCells mem_ownCells ownSems0 ownRefs ownBufs)

variable (d : Dev nD) (L : grid2.Coords)

/-- The gather slots' semaphores are distinct. -/
theorem gsem_inj : ∀ s t : Fin 5, gsem s = gsem t → s = t := by decide
/-- The output slots' semaphores are distinct. -/
theorem osem_inj : ∀ s t : Fin 3, osem s = osem t → s = t := by decide
/-- No output slot's semaphore is a gather slot's. -/
theorem osem_ne_gsem : ∀ (s : Fin 3) (t : Fin 5), osem s ≠ gsem t := by decide

/-- The cells of the two rings, of the first copies. -/
def gCell : Fin 5 ↪ GSem nD τ sig := ⟨fun s => (thr d L, .dma (gsem s)), fun s t h => gsem_inj s t (by simpa using h)⟩
/-- The output slots' semaphores on the tile. -/
def oCell : Fin 3 ↪ GSem nD τ sig := ⟨fun s => (thr d L, .dma (osem s)), fun s t h => osem_inj s t (by simpa using h)⟩
/-- The semaphore of the copy of the indices. -/
abbrev iCell : GSem nD τ sig := (thr d L, .dma cc2_scoped0.sem)
/-- The semaphore of the copy of the encodings. -/
abbrev eCell : GSem nD τ sig := (thr d L, .dma cc2_scoped1.sem)

/-- The tile's other cells. -/
def otherCells : Finset (GSem nD τ sig) :=
  (((ownCells (thr d L) \ Finset.univ.map (gCell d L)) \ Finset.univ.map (oCell d L)).erase (iCell d L)).erase (eCell d L)

/-- The tile's semaphores at zero: the gathers', the output copies', the two staging copies' and the others. -/
theorem sems_split : (ownSems0 (thr d L) : sProp 𝕄)
    = iprop((bigSep Finset.univ fun s : Fin 5 => semVal (thr d L, SemLoc.dma (gsem s)) 0) ∗ (bigSep Finset.univ fun s : Fin 3 => semVal (thr d L, SemLoc.dma (osem s)) 0)
        ∗ semVal (iCell d L) 0 ∗ semVal (eCell d L) 0 ∗ bigSep (otherCells d L) fun c => semVal c 0) := by
  have own (sm : DmaSem sig) (h : (SemLoc.dma sm : SemLoc sig).isScoped .scVector = true) : ((thr d L, SemLoc.dma sm) : GSem nD τ sig) ∈ ownCells (thr d L) :=
    mem_ownCells.mpr ⟨rfl, h⟩
  have hg : ∀ s, gCell d L s ∈ ownCells (thr d L) := fun s => own _ (by revert s; decide)
  have notG (sm : DmaSem sig) (h : ∀ s, sm ≠ gsem s) : ((thr d L, SemLoc.dma sm) : GSem nD τ sig) ∉ Finset.univ.map (gCell d L) := by
    intro hx
    obtain ⟨s, -, hs⟩ := Finset.mem_map.mp hx
    exact h s (SemLoc.dma.inj (Prod.mk.inj hs).2).symm
  have notO (sm : DmaSem sig) (h : ∀ s, sm ≠ osem s) : ((thr d L, SemLoc.dma sm) : GSem nD τ sig) ∉ Finset.univ.map (oCell d L) := by
    intro hx
    obtain ⟨s, -, hs⟩ := Finset.mem_map.mp hx
    exact h s (SemLoc.dma.inj (Prod.mk.inj hs).2).symm
  have ho : ∀ s, oCell d L s ∈ ownCells (thr d L) \ Finset.univ.map (gCell d L) := fun s =>
    Finset.mem_sdiff.mpr ⟨own _ (by revert s; decide), notG _ (fun t => osem_ne_gsem s t)⟩
  have hi : iCell d L ∈ (ownCells (thr d L) \ Finset.univ.map (gCell d L)) \ Finset.univ.map (oCell d L) :=
    Finset.mem_sdiff.mpr ⟨Finset.mem_sdiff.mpr ⟨own _ (by decide), notG _ (by decide)⟩, notO _ (by decide)⟩
  have he : eCell d L ∈ (((ownCells (thr d L) \ Finset.univ.map (gCell d L)) \ Finset.univ.map (oCell d L)).erase (iCell d L)) :=
    Finset.mem_erase.mpr ⟨by simp [eCell, iCell]; decide,
      Finset.mem_sdiff.mpr ⟨Finset.mem_sdiff.mpr ⟨own _ (by decide), notG _ (by decide)⟩, notO _ (by decide)⟩⟩
  unfold SparseCore.Cfg.ownSems0 otherCells
  rw [take_family _ (gCell d L) hg, take_family _ (oCell d L) ho, SparseCore.bigSep_erase' hi, SparseCore.bigSep_erase' he]
  rfl

/-- The four scratch buffers, and the tile's other buffers. -/
abbrev vref (b : Ref sig .scVector) : DevRef τ sig := (thr d L).2.devRef b
/-- The tile's buffers other than its four scratch buffers. -/
def otherRefs : Finset (DevRef τ sig) :=
  ((((ownRefs (τ := τ) (thr d L).2).erase (vref d L cc2_scratch0)).erase (vref d L cc2_scratch1)).erase (vref d L cc2_scratch2)).erase (vref d L cc2_scratch3)

/-- The tile's buffers: its four scratch buffers and the others. -/
theorem bufs_split : (ownBufs (thr d L) : sProp 𝕄)
    = iprop((∃ f : S25600.Idx → BitVec 32, (mI).view.loc (thr d L) ↦[Finset.univ]{fullShare} f) ∗ (∃ f : S12800.Idx → F .f32, (mC).view.loc (thr d L) ↦[Finset.univ]{fullShare} f)
        ∗ (∃ f : S5x80x128.Idx → F .f32, (mG).view.loc (thr d L) ↦[Finset.univ]{fullShare} f) ∗ (∃ f : S3x80x64.Idx → F .f32, (mB).view.loc (thr d L) ↦[Finset.univ]{fullShare} f)
        ∗ bigSep (otherRefs d L) fun b => iprop(∃ f, ((d, b) : Loc nD τ sig) ↦{fullShare} f)) := by
  have own (b : Ref sig .scVector) (h : (vref d L b).owner = .proc (thr d L).2) : vref d L b ∈ ownRefs (τ := τ) (thr d L).2 :=
    SparseCore.Cfg.mem_ownRefs_of_owner (p := (thr d L).2) (b := vref d L b) h
  have ne (b b' : Ref sig .scVector) (h : b ≠ b') : vref d L b ≠ vref d L b' := fun e => h (Proc.devRef_injective _ e)
  unfold SparseCore.Cfg.ownBufs otherRefs
  refine (SparseCore.bigSep_erase' (own cc2_scratch0 rfl)).trans ?_
  rw [SparseCore.bigSep_erase' (Finset.mem_erase.mpr ⟨ne _ _ (by decide), own cc2_scratch1 rfl⟩),
    SparseCore.bigSep_erase' (Finset.mem_erase.mpr ⟨ne _ _ (by decide), Finset.mem_erase.mpr ⟨ne _ _ (by decide), own cc2_scratch2 rfl⟩⟩),
    SparseCore.bigSep_erase' (Finset.mem_erase.mpr ⟨ne _ _ (by decide), Finset.mem_erase.mpr ⟨ne _ _ (by decide), Finset.mem_erase.mpr ⟨ne _ _ (by decide), own cc2_scratch3 rfl⟩⟩⟩)]
  rfl

/-- Distinct gather slots share no element. -/
theorem slotsG_disjoint : ∀ s ∈ (Finset.univ : Finset (Fin 5)), ∀ t ∈ (Finset.univ : Finset (Fin 5)), s ≠ t → Disjoint (slotG s.val) (slotG t.val) :=
  fun s _ t _ h => Finset.disjoint_left.mpr fun x hx hy => h (Fin.ext ((mem_slotG.mp hx).symm.trans (mem_slotG.mp hy)))
/-- Distinct output slots share no element. -/
theorem slotsB_disjoint : ∀ s ∈ (Finset.univ : Finset (Fin 3)), ∀ t ∈ (Finset.univ : Finset (Fin 3)), s ≠ t → Disjoint (slotB s.val) (slotB t.val) :=
  fun s _ t _ h => Finset.disjoint_left.mpr fun x hx hy => h (Fin.ext ((mem_slotB.mp hx).symm.trans (mem_slotB.mp hy)))
/-- The five gather slots make up their buffer. -/
theorem slotsG_cover : (Finset.univ : Finset (Fin 5)).biUnion (fun s => slotG s.val) = Finset.univ := by
  ext x
  simp only [Finset.mem_biUnion, Finset.mem_univ, true_and, iff_true]
  exact ⟨⟨(x 0).val, (x 0).isLt⟩, mem_slotG.mpr rfl⟩
/-- The three output slots make up their buffer. -/
theorem slotsB_cover : (Finset.univ : Finset (Fin 3)).biUnion (fun s => slotB s.val) = Finset.univ := by
  ext x
  simp only [Finset.mem_biUnion, Finset.mem_univ, true_and, iff_true]
  exact ⟨⟨(x 0).val, (x 0).isLt⟩, mem_slotB.mpr rfl⟩

/-- The gathers' buffer is its five slots. -/
theorem slotsG (f : S5x80x128.Idx → F .f32) : ((mG).view.loc (thr d L) ↦[Finset.univ]{fullShare} f : sProp 𝕄)
    = bigSep Finset.univ fun s : Fin 5 => (mG).view.loc (thr d L) ↦[slotG s.val]{fullShare} f := by
  rw [← pointsTo_biUnion Finset.univ (ℓ := (mG).view.loc (thr d L)) (fun s : Fin 5 => slotG s.val) slotsG_disjoint, slotsG_cover]
/-- The output buffer is its three slots. -/
theorem slotsB (f : S3x80x64.Idx → F .f32) : ((mB).view.loc (thr d L) ↦[Finset.univ]{fullShare} f : sProp 𝕄)
    = bigSep Finset.univ fun s : Fin 3 => (mB).view.loc (thr d L) ↦[slotB s.val]{fullShare} f := by
  rw [← pointsTo_biUnion Finset.univ (ℓ := (mB).view.loc (thr d L)) (fun s : Fin 3 => slotB s.val) slotsB_disjoint, slotsB_cover]

/-- The five gather slots, each at some contents, make up the buffer at some contents. -/
theorem slotsG_join : (bigSep Finset.univ fun s : Fin 5 => iprop(∃ f : S5x80x128.Idx → F .f32, (mG).view.loc (thr d L) ↦[slotG s.val]{fullShare} f))
    ⊢ (iprop(∃ f : S5x80x128.Idx → F .f32, (mG).view.loc (thr d L) ↦[Finset.univ]{fullShare} f) : sProp 𝕄) := by
  rw [fin5]
  iintro ⟨⟨%f0, H0⟩, ⟨%f1, H1⟩, ⟨%f2, H2⟩, ⟨%f3, H3⟩, ⟨%f4, H4⟩⟩
  ihave H := (pointsTo_biUnion_join (ℓ := (mG).view.loc (thr d L)) (q := fullShare) (Val := Elt F) Finset.univ (fun s : Fin 5 => slotG s.val)
    ![f0, f1, f2, f3, f4] f0 slotsG_disjoint) $$ [H0 H1 H2 H3 H4]
  · rw [fin5]
    isplitl [H0]; · iexact H0
    isplitl [H1]; · iexact H1
    isplitl [H2]; · iexact H2
    isplitl [H3]; · iexact H3
    iexact H4
  icases H with ⟨%g, -, Hg⟩
  rw [slotsG_cover]
  iexists g; iexact Hg
/-- The three output slots, each at some contents, make up the buffer at some contents. -/
theorem slotsB_join : (bigSep Finset.univ fun s : Fin 3 => iprop(∃ f : S3x80x64.Idx → F .f32, (mB).view.loc (thr d L) ↦[slotB s.val]{fullShare} f))
    ⊢ (iprop(∃ f : S3x80x64.Idx → F .f32, (mB).view.loc (thr d L) ↦[Finset.univ]{fullShare} f) : sProp 𝕄) := by
  rw [fin3]
  iintro ⟨⟨%f0, H0⟩, ⟨%f1, H1⟩, ⟨%f2, H2⟩⟩
  ihave H := (pointsTo_biUnion_join (ℓ := (mB).view.loc (thr d L)) (q := fullShare) (Val := Elt F) Finset.univ (fun s : Fin 3 => slotB s.val)
    ![f0, f1, f2] f0 slotsB_disjoint) $$ [H0 H1 H2]
  · rw [fin3]
    isplitl [H0]; · iexact H0
    isplitl [H1]; · iexact H1
    iexact H2
  icases H with ⟨%g, -, Hg⟩
  rw [slotsB_cover]
  iexists g; iexact Hg

end Own

end Cert.Proof

end
-- ==== Proof.Tile.lean ====
/-
  One tile's task: the staging copies, the gathers begun ahead, the chunks, the last waits.
-/
module

public import proofs.«01_k».proof.Proof.Own

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F] (d : Dev nD) (L : grid2.Coords)
variable (tab : S1000000x128.Idx → F .f32) (ix : S819200.Idx → BitVec 32) (en : S12800.Idx → F .f32) (g : S819200x64.Idx → F .f32)
variable (q qx qe : PosShare TreeShare)

/-- The tile's number is below thirty-two. -/
theorem wid_lt : wid L < 32 := by
  have h0 : (L 0).val < 2 := (L 0).isLt
  have h1 : (L 1).val < 16 := (L 1).isLt
  show 2 * (L 1).val + (L 0).val < 32
  omega

/-- The tile's own indices: 25600 of the flat array, from its number on. -/
def mine : S25600.Idx → BitVec 32 := fun u => ix (ix1 (25600 * wid L + (u 0).val) (by have h := wid_lt L; have hu : (u 0).val < 25600 := (u 0).isLt; omega))

/-- The tile's indices start at 25600 times its number. -/
theorem off1_wid : k2_off1 L = ![25600 * wid L] := by
  rw [k2_off1_eq]; congr 1
  show 51200 * (L 1).val + 25600 * (L 0).val = 25600 * (2 * (L 1).val + (L 0).val)
  omega

/-- The tile's part of the flat index array, as a view. -/
abbrev partM (off : Fin 1 → ℕ) (h : ∀ a, off a + S25600.size a ≤ S819200.size a) : Memref sig .scVector .hbm S25600 .i32 :=
  mX.slice (Rect.unit (s := S819200) off S25600.size h) (fun _ => rfl)

/-- The part of the index list that the tile copies is its own indices. -/
theorem part_read (off : Fin 1 → ℕ) (h) (e : off = ![25600 * wid L]) : (partM off h).view.read (Elt F) ix = mine L ix := by
  funext u
  refine congrArg ix (Rect.emb_eq_of_coords _ _ _ fun a => ?_)
  subst e
  fin_cases a
  show 25600 * wid L + (u 0).val = 25600 * wid L + 1 * (u 0).val
  omega

/-- What the copy of the indices raises its semaphore by. -/
abbrev NI : ℕ := (mI).view.dmaCredit
/-- What the copy of the encodings raises its semaphore by. -/
abbrev NC : ℕ := (mC).view.dmaCredit

/-- The two staging copies under way: of the tile's indices and of the encodings. -/
def iFlight : sProp (MT nD τ sig (HIx 1) (Elt F) ℕ UU ℕ) :=
  Transfers.Flight countersEmb (thr d L) (SemLoc.dma cc2_scoped0.sem) (default : HIx 1) NI
    iprop(((mI).view.loc (thr d L) ↦[Finset.univ]{fullShare} mine L ix))
/-- The copy of the encodings under way. -/
def eFlight : sProp (MT nD τ sig (HIx 1) (Elt F) ℕ UU ℕ) :=
  Transfers.Flight countersEmb (thr d L) (SemLoc.dma cc2_scoped1.sem) (default : HIx 1) NC
    iprop(((mC).view.loc (thr d L) ↦[Finset.univ]{fullShare} en))

/-- Starting the copy of the tile's indices. -/
theorem istart_wp {h1 h2 h3} (Q : PUnit → sProp 𝕄) :
    iprop((((mX).view.loc (thr d L) ↦[Finset.univ]{qx} ix) ∗ (∃ f0 : S25600.Idx → BitVec 32, (mI).view.loc (thr d L) ↦[Finset.univ]{fullShare} f0)
          ∗ semVal (iCell d L) 0) ∗ (iFlight (F := F) d L ix -∗ Q ⟨⟩))
      ⊢ wp frame (wpE (defs₀ (F := F)) 𝒱₀ (thr d L) none) Set.univ
          (.op (TpuEff.enqueueDma (partM (k2_off1 L) (k2_off1_inb L)) (.here mI) (.dma cc2_scoped0.sem) h1 h2 h3) Prog.ret) Q := by
  have hset : (mI).view.set = Finset.univ := View.set_whole _
  iintro ⟨⟨HX, ⟨%f0, HI⟩, HS⟩, Hk⟩
  ihave HXs := (pointsTo_split_subset (ℓ := (mX).view.loc (thr d L)) (q := qx) (f := ix) (S := Finset.univ)
    (Finset.subset_univ (partM (k2_off1 L) (k2_off1_inb L)).view.set)).1 $$ HX
  icases HXs with ⟨HX1, -⟩
  iapply (Transfers.wp_dmaLocal countersEmb 𝒱₀ (thr d L) none (default : HIx 1) NI (rfl : (mI).view.amount (.dma cc2_scoped0.sem) = NI)
      (by decide) (Finset.subset_univ _)) $$ [HX1 HI HS]
  · isplitl [HX1]; · iexact HX1
    isplitl [HI]; · iexact HI
    iexact HS
  iintro Hfl
  rw [wp_ret]; imodintro
  iapply Hk
  unfold iFlight
  iapply (Transfers.Flight_mono countersEmb (thr d L) ?_) $$ Hfl
  iintro ⟨HI, -⟩
  iapply (Entails.of_eq ?_) $$ HI
  refine congrArg (fun f => ((mI).view.loc (thr d L) ↦[Finset.univ]{fullShare} f : sProp 𝕄)) ?_
  refine (View.write_whole_univ _ _ _).trans ?_
  exact part_read (F := F) L ix _ _ (off1_wid L)

/-- Waiting for the copy of the indices gives the tile its own indices. -/
theorem iwait_wp (O : CellTallies nD τ sig (HIx 1)) (W : Waits sig (HIx 1)) {h1 h2} (Q : PUnit → sProp 𝕄) :
    iprop((iFlight (F := F) d L ix ∗ owes (thr d L) O W ∗ Transfers.MayWaits (thr d L) (default : HIx 1) O)
        ∗ ((((mI).view.loc (thr d L) ↦[Finset.univ]{fullShare} mine L ix) ∗ semVal (iCell d L) 0
              ∗ owes (thr d L) O (insert (SemLoc.dma cc2_scoped0.sem, (default : HIx 1)) W)) -∗ Q ⟨⟩))
      ⊢ wp frame (wpE (defs₀ (F := F)) 𝒱₀ (thr d L) none) Set.univ
          (.op (TpuEff.waitDma2 cc2_scoped0.sem (partM (k2_off1 L) (k2_off1_inb L)) mI h1 h2) Prog.ret) Q := by
  unfold iFlight
  iintro ⟨⟨Hfl, HO, #Hmw⟩, Hk⟩
  iapply (Transfers.wp_waitLocalO countersEmb 𝒱₀ (thr d L) none (default : HIx 1) (rfl : (mI).view.dmaCredit = NI)) $$ [Hfl HO]
  · isplitl [Hfl]; · iexact Hfl
    isplitl [HO]; · iexact HO
    iapply (Transfers.MayWaits.elim (SemLoc.dma cc2_scoped0.sem)) $$ Hmw
  iintro ⟨HD, HS, HO⟩
  rw [wp_ret]; imodintro
  iapply Hk
  isplitl [HD]; · iexact HD
  isplitl [HS]; · iexact HS
  iexact HO

/-- Starting the copy of the encodings. -/
theorem estart_wp {h1 h2 h3} (Q : PUnit → sProp 𝕄) :
    iprop((((mE).view.loc (thr d L) ↦[Finset.univ]{qe} en) ∗ (∃ f0 : S12800.Idx → F .f32, (mC).view.loc (thr d L) ↦[Finset.univ]{fullShare} f0)
          ∗ semVal (eCell d L) 0) ∗ (eFlight d L en -∗ Q ⟨⟩))
      ⊢ wp frame (wpE (defs₀ (F := F)) 𝒱₀ (thr d L) none) Set.univ
          (.op (TpuEff.enqueueDma mE (.here mC) (.dma cc2_scoped1.sem) h1 h2 h3) Prog.ret) Q := by
  have hset : (mE).view.set = Finset.univ := View.set_whole _
  iintro ⟨⟨HX, ⟨%f0, HI⟩, HS⟩, Hk⟩
  ihave HX1 := (Entails.of_eq (show ((mE).view.loc (thr d L) ↦[Finset.univ]{qe} en : sProp 𝕄) = (mE).view.loc (thr d L) ↦[(mE).view.set]{qe} en by rw [hset])) $$ HX
  iapply (Transfers.wp_dmaLocal countersEmb 𝒱₀ (thr d L) none (default : HIx 1) NC (rfl : (mC).view.amount (.dma cc2_scoped1.sem) = NC)
      (by decide) (Finset.subset_univ _)) $$ [HX1 HI HS]
  · isplitl [HX1]; · iexact HX1
    isplitl [HI]; · iexact HI
    iexact HS
  iintro Hfl
  rw [wp_ret]; imodintro
  iapply Hk
  unfold eFlight
  iapply (Transfers.Flight_mono countersEmb (thr d L) ?_) $$ Hfl
  iintro ⟨HI, -⟩
  iapply (Entails.of_eq ?_) $$ HI
  refine congrArg (fun f => ((mC).view.loc (thr d L) ↦[Finset.univ]{fullShare} f : sProp 𝕄)) ?_
  exact View.write_whole_univ _ _ _

/-- Waiting for the copy of the encodings gives the tile the encodings. -/
theorem ewait_wp (O : CellTallies nD τ sig (HIx 1)) (W : Waits sig (HIx 1)) {h1 h2} (Q : PUnit → sProp 𝕄) :
    iprop((eFlight d L en ∗ owes (thr d L) O W ∗ Transfers.MayWaits (thr d L) (default : HIx 1) O)
        ∗ ((((mC).view.loc (thr d L) ↦[Finset.univ]{fullShare} en) ∗ semVal (eCell d L) 0
              ∗ owes (thr d L) O (insert (SemLoc.dma cc2_scoped1.sem, (default : HIx 1)) W)) -∗ Q ⟨⟩))
      ⊢ wp frame (wpE (defs₀ (F := F)) 𝒱₀ (thr d L) none) Set.univ
          (.op (TpuEff.waitDma2 cc2_scoped1.sem mE mC h1 h2) Prog.ret) Q := by
  unfold eFlight
  iintro ⟨⟨Hfl, HO, #Hmw⟩, Hk⟩
  iapply (Transfers.wp_waitLocalO countersEmb 𝒱₀ (thr d L) none (default : HIx 1) (rfl : (mC).view.dmaCredit = NC)) $$ [Hfl HO]
  · isplitl [Hfl]; · iexact Hfl
    isplitl [HO]; · iexact HO
    iapply (Transfers.MayWaits.elim (SemLoc.dma cc2_scoped1.sem)) $$ Hmw
  iintro ⟨HD, HS, HO⟩
  rw [wp_ret]; imodintro
  iapply Hk
  isplitl [HD]; · iexact HD
  isplitl [HS]; · iexact HS
  iexact HO

/-- The shares the five gather slots read under. -/
abbrev pT : Fin 5 → PosShare TreeShare := fun s => peel q s.val
/-- The gather slots' shares of the tile's indices. -/
abbrev pI : Fin 5 → PosShare TreeShare := fun s => peel fullShare s.val

/-- The slots and semaphores of the two rings, free. -/
def slotsFree : sProp (MT nD τ sig (HIx 1) (Elt F) ℕ UU ℕ) :=
  bigSep Finset.univ fun s : Fin 5 => iprop(∃ f : S5x80x128.Idx → F .f32, (mG).view.loc (thr d L) ↦[slotG s.val]{fullShare} f)
/-- The gathers' semaphores, all at zero. -/
def gsems0 : sProp (MT nD τ sig (HIx 1) (Elt F) ℕ UU ℕ) := bigSep Finset.univ fun s : Fin 5 => semVal (thr d L, SemLoc.dma (gsem s)) 0

/-- The table's and the indices' shares, the slots and the semaphores make up five idle gather slots, with a share of the indices over. -/
theorem idle_start (fI : S25600.Idx → BitVec 32) :
    iprop(((mT).view.loc (thr d L) ↦[Finset.univ]{q} tab) ∗ ((mI).view.loc (thr d L) ↦[Finset.univ]{fullShare} fI) ∗ slotsFree d L ∗ gsems0 d L)
      ⊢ (iprop((bigSep Finset.univ (gIdle d L tab fI (pT q) pI)) ∗ ((mI).view.loc (thr d L) ↦[Finset.univ]{rest fullShare 5} fI)) : sProp 𝕄) := by
  unfold gIdle gHeld slotsFree gsems0
  rw [bigSep_sep', bigSep_sep', bigSep_sep', peeled (ℓ := (mT).view.loc (thr d L)) _ _ q 5, peeled (ℓ := (mI).view.loc (thr d L)) _ _ fullShare 5,
    range5_fin5, range5_fin5]
  iintro ⟨⟨HT, -⟩, ⟨HI, HIr⟩, HG, HS⟩
  isplitr [HIr]
  · isplitl [HT HI]; · isplitl [HT] <;> iassumption
    isplitl [HG] <;> iassumption
  iexact HIr

/-- Five idle gather slots give back what they were made of. -/
theorem idle_end (fI : S25600.Idx → BitVec 32) :
    iprop((bigSep Finset.univ (gIdle d L tab fI (pT q) pI)) ∗ ((mI).view.loc (thr d L) ↦[Finset.univ]{rest fullShare 5} fI))
      ⊢ (iprop(((mI).view.loc (thr d L) ↦[Finset.univ]{fullShare} fI) ∗ slotsFree d L ∗ gsems0 d L) : sProp 𝕄) := by
  unfold gIdle gHeld slotsFree gsems0
  rw [bigSep_sep', bigSep_sep', bigSep_sep', peeled (ℓ := (mI).view.loc (thr d L)) _ _ fullShare 5, range5_fin5]
  iintro ⟨⟨⟨-, HI⟩, HG, HS⟩, HIr⟩
  isplitl [HI HIr]; · isplitl [HI] <;> iassumption
  isplitl [HG] <;> iassumption

/-- Before the first chunk each gather slot has its own first chunk under way. -/
theorem gRing_zero (fI : S25600.Idx → BitVec 32) (qT qI : Fin 5 → PosShare TreeShare) :
    gRing d L tab fI qT qI 0 = bigSep Finset.univ fun s : Fin 5 => gFlight d L tab fI (qT s) (qI s) s s.val := by
  unfold gRing
  refine bigSep_congr fun s _ => ?_
  have hs := s.isLt
  have e : nextG 0 s = s.val := by show 0 + (s.val + 5 - 0 % 5) % 5 = s.val; omega
  rw [e]; exact if_pos (by omega)
/-- After the last chunk all gather slots are idle. -/
theorem gRing_end (fI : S25600.Idx → BitVec 32) (qT qI : Fin 5 → PosShare TreeShare) :
    gRing d L tab fI qT qI 320 = bigSep Finset.univ (gIdle d L tab fI qT qI) := by
  unfold gRing
  refine bigSep_congr fun s _ => ?_
  exact if_neg (by show ¬ 320 + _ < 320; omega)
/-- Before the first chunk all output slots are idle. -/
theorem oRing_zero : oRing d L g 0 = bigSep Finset.univ (oIdle (F := F) d L) := by
  unfold oRing
  refine bigSep_congr fun s _ => ?_
  have hs := s.isLt
  exact if_neg (by show ¬ 3 ≤ 0 + (s.val + 3 - 0 % 3) % 3; omega)
/-- After the last chunk the last three chunks' copies are under way. -/
theorem oRing_end : oRing d L g 320 = iprop(oFlight d L g 0 (base L + 318) ∗ oFlight d L g 1 (base L + 319) ∗ oFlight d L g 2 (base L + 317)) := by
  unfold oRing
  rw [fin3]
  rfl
/-- The 320 chunks are the last three and those that landed within the loop. -/
theorem all_landed : bigSep (Finset.range 320) (summed d L g) = iprop(summed d L g 318 ∗ summed d L g 319 ∗ summed d L g 317 ∗ landed d L g 320) := by
  rw [SparseCore.bigSep_erase' (i := 318) (by decide), SparseCore.bigSep_erase' (i := 319) (by decide), SparseCore.bigSep_erase' (i := 317) (by decide)]
  unfold landed
  congr 4

/-- The tile's task over its buffers. -/
abbrev task := cc2__sc_gather_add (F := F) L mT (Memref.isWhole_whole _) mX (Memref.isWhole_whole _) mE (Memref.isWhole_whole _) mO (Memref.isWhole_whole _)
    mI (Memref.isWhole_whole _) mC (Memref.isWhole_whole _) mG (Memref.isWhole_whole _) mB (Memref.isWhole_whole _)
    cc2_scratch4 cc2_scratch5 cc2_scoped0 cc2_scoped1

/-- What a tile is handed of the call's arrays, and what it hands back. -/
def handed : sProp (MT nD τ sig (HIx 1) (Elt F) ℕ UU ℕ) :=
  iprop(((mT).view.loc (thr d L) ↦[Finset.univ]{q} tab) ∗ ((mX).view.loc (thr d L) ↦[Finset.univ]{qx} ix) ∗ ((mE).view.loc (thr d L) ↦[Finset.univ]{qe} en)
    ∗ bigSep (Finset.range 320) fun n => iprop(∃ f0 : S819200x64.Idx → F .f32, (mO).view.loc (thr d L) ↦[chunkSet (base L + n)]{fullShare} f0))
/-- What the tile hands back: its 320 chunks of the result. -/
def handedBack : sProp (MT nD τ sig (HIx 1) (Elt F) ℕ UU ℕ) := bigSep (Finset.range 320) (summed d L g)

/-- The tile's scratch and semaphores, whole and at zero. -/
def scratch : sProp (MT nD τ sig (HIx 1) (Elt F) ℕ UU ℕ) :=
  iprop((∃ f : S25600.Idx → BitVec 32, (mI).view.loc (thr d L) ↦[Finset.univ]{fullShare} f) ∗ (∃ f : S12800.Idx → F .f32, (mC).view.loc (thr d L) ↦[Finset.univ]{fullShare} f)
    ∗ slotsFree d L ∗ gsems0 d L ∗ bigSep Finset.univ (oIdle (F := F) d L) ∗ semVal (iCell d L) 0 ∗ semVal (eCell d L) 0)

/-- Before the first chunk all 320 chunks are still to come. -/
theorem unbegun_zero : (unbegun (F := F) d L 0)
    = bigSep (Finset.range 320) fun n => iprop(∃ f0 : S819200x64.Idx → F .f32, (mO).view.loc (thr d L) ↦[chunkSet (base L + n)]{fullShare} f0) := by
  unfold unbegun
  congr 1
/-- Before the first chunk none has landed. -/
theorem landed_zero : landed d L g 0 = iprop(emp) := by
  unfold landed
  rw [show (Finset.range 320).filter (· + 3 < 0) = ∅ by ext p; simp]
  exact bigSep_empty

/-- The tile's task, from what it is handed and its scratch: it hands its chunks back at the result's values, and its scratch. -/
theorem task_wp (hix : ∀ j, (ix j).toNat < 1000000) (hg : Sums L tab (mine L ix) en g) (O : CellTallies nD τ sig (HIx 1)) (W : Waits sig (HIx 1)) :
    iprop(handed d L tab ix en q qx qe ∗ scratch d L ∗ owes (thr d L) O W ∗ Transfers.MayWaits (thr d L) (default : HIx 1) O)
      ⊢ wp frame (wpE (defs₀ (F := F)) 𝒱₀ (thr d L) none) Set.univ (task (F := F) L)
          fun _ => iprop(handedBack d L g ∗ scratch (F := F) d L ∗ oweW d L O W) := by
  have hfI : ∀ u, (mine L ix u).toNat < 1000000 := fun u => hix _
  unfold handed scratch handedBack task
  rw [cc2__sc_gather_add_eq_skeleton]; unfold cc2__sc_gather_add_skel
  rw [k2_part3_eq_skeleton, k2_part4_eq_skeleton]; unfold k2_part3_skel k2_part4_skel
  simp only [wp_bind, wp_pure, Prog.lift]
  rw [all_landed, ← unbegun_zero]
  iintro ⟨⟨HT, HX, HE, HO⟩, ⟨HI, HC, HG, HSg, Ho, HSi, HSe⟩, Hw, #Hmw⟩
  iapply (istart_wp d L ix qx)
  isplitl [HX HI HSi]
  · isplitl [HX]; · iexact HX
    isplitl [HI] <;> iassumption
  iintro Hfl
  iapply (iwait_wp d L ix O W)
  isplitl [Hfl Hw]
  · isplitl [Hfl]; · iexact Hfl
    isplitl [Hw]; · iexact Hw
    iexact Hmw
  iintro ⟨HI, HSi, Hw⟩
  iapply (estart_wp d L en qe)
  isplitl [HE HC HSe]
  · isplitl [HE]; · iexact HE
    isplitl [HC] <;> iassumption
  iintro Hfl
  iapply (ewait_wp d L en O _)
  isplitl [Hfl Hw]
  · isplitl [Hfl]; · iexact Hfl
    isplitl [Hw]; · iexact Hw
    iexact Hmw
  iintro ⟨HC, HSe, Hw⟩
  ihave Hid := (idle_start d L tab q (mine L ix)) $$ [HT HI HG HSg]
  · isplitl [HT]; · iexact HT
    isplitl [HI]; · iexact HI
    isplitl [HG] <;> iassumption
  icases Hid with ⟨Hid, HIr⟩
  ihave Hid' := (Entails.of_eq (fin5 (gIdle d L tab (mine L ix) (pT q) pI))) $$ Hid
  icases Hid' with ⟨H0, H1, H2, H3, H4⟩
  iapply (gather_wp d L tab (mine L ix) hfI (pT q 0) (pI 0) 0 0 _ rfl _ rfl _ rfl)
  isplitl [H0]; · unfold gIdle; iexact H0
  iintro H0
  iapply (gather_wp d L tab (mine L ix) hfI (pT q 1) (pI 1) 1 1 _ rfl _ rfl _ rfl)
  isplitl [H1]; · unfold gIdle; iexact H1
  iintro H1
  iapply (gather_wp d L tab (mine L ix) hfI (pT q 2) (pI 2) 2 2 _ rfl _ rfl _ rfl)
  isplitl [H2]; · unfold gIdle; iexact H2
  iintro H2
  imodintro
  iapply (gather_wp d L tab (mine L ix) hfI (pT q 3) (pI 3) 3 3 _ rfl _ rfl _ rfl)
  isplitl [H3]; · unfold gIdle; iexact H3
  iintro H3
  iapply (gather_wp d L tab (mine L ix) hfI (pT q 4) (pI 4) 4 4 _ rfl _ rfl _ rfl)
  isplitl [H4]; · unfold gIdle; iexact H4
  iintro H4
  iapply (chunks_wp d L tab (mine L ix) en g (pT q) pI hfI hg _ O W)
  isplitl [H0 H1 H2 H3 H4 Ho HC HO Hw]
  · unfold outerInv
    rw [gRing_zero, oRing_zero, landed_zero, fin5]
    isplitl [H0 H1 H2 H3 H4]
    · isplitl [H0]; · iexact H0
      isplitl [H1]; · iexact H1
      isplitl [H2]; · iexact H2
      isplitl [H3]; · iexact H3
      iexact H4
    isplitl [Ho]; · iexact Ho
    isplitl [HC]; · iexact HC
    isplitr; · iempintro
    isplitl [HO]; · iexact HO
    isplitl [Hw]
    · iexists _
      isplitr; rotate_left
      · iexact Hw
      · ipureintro
        exact insert_ok (insert_ok (fun p hp => Or.inl hp) _) _
    iexact Hmw
  iintro %a Hinv
  unfold outerInv
  rw [gRing_end, oRing_end]
  icases Hinv with ⟨Hid, ⟨Ho0, Ho1, Ho2⟩, HC, Hd, -, ⟨%W1, %hW1, Hw⟩, -⟩
  iapply (owait_wp d L g 0 (base L + 318) _ (k2_off22_inb L) _ rfl O W1)
  isplitl [Ho0 Hw]
  · isplitl [Ho0]; · iexact Ho0
    isplitl [Hw]; · iexact Hw
    iexact Hmw
  iintro ⟨Hd0, HB0, HS0, Hw⟩
  imodintro
  iapply (owait_wp d L g 1 (base L + 319) _ (k2_off22_inb L) _ rfl O _)
  isplitl [Ho1 Hw]
  · isplitl [Ho1]; · iexact Ho1
    isplitl [Hw]; · iexact Hw
    iexact Hmw
  iintro ⟨Hd1, HB1, HS1, Hw⟩
  iapply (owait_wp d L g 2 (base L + 317) _ (k2_off22_inb L) _ rfl O _)
  isplitl [Ho2 Hw]
  · isplitl [Ho2]; · iexact Ho2
    isplitl [Hw]; · iexact Hw
    iexact Hmw
  iintro ⟨Hd2, HB2, HS2, Hw⟩
  imodintro
  ihave Hid := (idle_end d L tab q (mine L ix)) $$ [Hid HIr]
  · isplitl [Hid] <;> iassumption
  icases Hid with ⟨HI, HG, HSg⟩
  isplitl [Hd0 Hd1 Hd2 Hd]
  · isplitl [Hd0]; · unfold summed; iexact Hd0
    isplitl [Hd1]; · unfold summed; iexact Hd1
    isplitl [Hd2]; · unfold summed; iexact Hd2
    iexact Hd
  isplitr [Hw]
  · isplitl [HI]; · iexists _; iexact HI
    isplitl [HC]; · iexists _; iexact HC
    isplitl [HG]; · iexact HG
    isplitl [HSg]; · iexact HSg
    isplitl [HB0 HS0 HB1 HS1 HB2 HS2]
    · rw [fin3]; unfold oIdle
      isplitl [HB0 HS0]; · isplitl [HB0] <;> iassumption
      isplitl [HB1 HS1]; · isplitl [HB1] <;> iassumption
      isplitl [HB2] <;> iassumption
    isplitl [HSi] <;> iassumption
  iexists _
  isplitr; rotate_left
  · iexact Hw
  · ipureintro
    exact insert_ok (insert_ok (insert_ok hW1 _) _) _

open SparseCore.Cfg (ownSems0 ownBufs)

/-- The tile's buffers and semaphores other than its scratch. -/
def others : sProp (MT nD τ sig (HIx 1) (Elt F) ℕ UU ℕ) :=
  iprop((bigSep (otherRefs d L) fun b => iprop(∃ f, ((d, b) : Loc nD τ sig) ↦{fullShare} f)) ∗ bigSep (otherCells d L) fun c => semVal c 0)

/-- A gather slot at given contents is one at some contents. -/
theorem slotG_some (f : S5x80x128.Idx → F .f32) (s : Fin 5) : ((mG).view.loc (thr d L) ↦[slotG s.val]{fullShare} f : sProp 𝕄)
    ⊢ iprop(∃ f : S5x80x128.Idx → F .f32, (mG).view.loc (thr d L) ↦[slotG s.val]{fullShare} f) := by iintro H; iexists f; iexact H
/-- An output slot at given contents is one at some contents. -/
theorem slotB_some (f : S3x80x64.Idx → F .f32) (s : Fin 3) : ((mB).view.loc (thr d L) ↦[slotB s.val]{fullShare} f : sProp 𝕄)
    ⊢ iprop(∃ f : S3x80x64.Idx → F .f32, (mB).view.loc (thr d L) ↦[slotB s.val]{fullShare} f) := by iintro H; iexists f; iexact H

/-- The tile's buffers and semaphores are the task's scratch and the others. -/
theorem scratch_of_own : iprop(ownBufs (thr d L) ∗ ownSems0 (thr d L)) ⊢ (iprop(scratch (F := F) d L ∗ others (F := F) d L) : sProp 𝕄) := by
  rw [bufs_split, sems_split]
  unfold scratch others slotsFree gsems0 oIdle
  rw [bigSep_sep']
  iintro ⟨⟨HI, HC, ⟨%fG, HG⟩, ⟨%fB, HB⟩, Hrest⟩, ⟨HSg, HSo, HSi, HSe, Hsr⟩⟩
  ihave HG' := ((Entails.of_eq (slotsG (F := F) d L fG)).trans (bigSep_mono (fun s _ => slotG_some d L fG s))) $$ HG
  ihave HB' := ((Entails.of_eq (slotsB (F := F) d L fB)).trans (bigSep_mono (fun s _ => slotB_some d L fB s))) $$ HB
  isplitr [Hrest Hsr]
  · isplitl [HI]; · iexact HI
    isplitl [HC]; · iexact HC
    isplitl [HG']; · iexact HG'
    isplitl [HSg]; · iexact HSg
    isplitl [HB' HSo]; · isplitl [HB'] <;> iassumption
    isplitl [HSi] <;> iassumption
  isplitl [Hrest] <;> iassumption

/-- The task's scratch and the others make up the tile's buffers and semaphores. -/
theorem own_of_scratch : iprop(scratch (F := F) d L ∗ others (F := F) d L) ⊢ (iprop(ownBufs (thr d L) ∗ ownSems0 (thr d L)) : sProp 𝕄) := by
  rw [bufs_split, sems_split]
  unfold scratch others slotsFree gsems0 oIdle
  rw [bigSep_sep']
  iintro ⟨⟨HI, HC, HG, HSg, ⟨HB, HSo⟩, HSi, HSe⟩, Hrest, Hsr⟩
  ihave HG' := (slotsG_join (F := F) d L) $$ HG
  ihave HB' := (slotsB_join (F := F) d L) $$ HB
  isplitl [HI HC HG' HB' Hrest]
  · isplitl [HI]; · iexact HI
    isplitl [HC]; · iexact HC
    isplitl [HG']; · iexact HG'
    isplitl [HB'] <;> iassumption
  isplitl [HSg]; · iexact HSg
  isplitl [HSo]; · iexact HSo
  isplitl [HSi]; · iexact HSi
  isplitl [HSe] <;> iassumption

/-- The task as the launch runs it: from what the tile is handed and its own buffers and semaphores, back to them, the waits recorded being its own. -/
theorem tile_body (hF : (K (F := F)).Facts) (hix : ∀ j, (ix j).toNat < 1000000) (hg : Sums L tab (mine L ix) en g)
    (O : CellTallies nD τ sig (HIx 1)) (W : Waits sig (HIx 1)) (hO : ∀ z, O z none = 0) :
    iprop(levAts (K (F := F)).L (K (F := F)).lev ∗ emp ∗ handed d L tab ix en q qx qe
        ∗ scopedBufs (thr d L) ∗ scopedSems0 (thr d L) ∗ owes (thr d L) O W)
      ⊢ wp frame (wpE (defs₀ (F := F)) 𝒱₀ (thr d L) none) Set.univ (task (F := F) L)
          fun _ => iprop(handedBack d L g ∗ scopedBufs (thr d L) ∗ scopedSems0 (thr d L) ∗ oweW d L O W) := by
  rw [(K (F := F)).scopedBufs_V hF d _ _, SparseCore.Cfg.scopedSems0_V (Val := Elt F) d _ _]
  have hpre : iprop(levAts (K (F := F)).L (K (F := F)).lev ∗ emp ∗ handed d L tab ix en q qx qe
        ∗ ownBufs (thr d L) ∗ ownSems0 (thr d L) ∗ owes (thr d L) O W)
      ⊢ (iprop((handed d L tab ix en q qx qe ∗ scratch d L ∗ owes (thr d L) O W ∗ Transfers.MayWaits (thr d L) (default : HIx 1) O) ∗ others (F := F) d L) : sProp 𝕄) := by
    iintro ⟨#Hlv, -, Hh, Hb, Hs, Hw⟩
    ihave Hmw := (show levAts (K (F := F)).L (K (F := F)).lev ⊢ Transfers.MayWaits (thr d L) (default : HIx 1) O from
      (K (F := F)).mayWaits_none (thr := thr d L) hO) $$ Hlv
    ihave Hsc := (scratch_of_own (F := F) d L) $$ [Hb Hs]
    · isplitl [Hb] <;> iassumption
    icases Hsc with ⟨Hsc, Hot⟩
    isplitr [Hot]
    · isplitl [Hh]; · iexact Hh
      isplitl [Hsc]; · iexact Hsc
      isplitl [Hw] <;> iassumption
    iexact Hot
  refine BIBase.Entails.trans hpre ?_
  refine BIBase.Entails.trans (sep_mono_l (task_wp d L tab ix en g q qx qe hix hg O W)) ?_
  refine BIBase.Entails.trans (wp_frame_r frame _ _) (wp_mono frame _ _ fun _ => ?_)
  iintro ⟨⟨Hb, Hsc, Hw⟩, Hot⟩
  ihave Hown := (own_of_scratch (F := F) d L) $$ [Hsc Hot]
  · isplitl [Hsc] <;> iassumption
  icases Hown with ⟨Hbufs, Hsems⟩
  isplitl [Hb]; · iexact Hb
  isplitl [Hbufs]; · iexact Hbufs
  isplitl [Hsems] <;> iassumption

end Tile

end Cert.Proof

end
-- ==== Proof.Detile.lean ====
/-
  The TensorCore pipeline that lays the table out row by row: its kernel run once, its data, what it leaves.
-/
module

public import proofs.«01_k».proof.Proof.Setup
public import proofs.«01_k».proof.Proof.Gen.KernelIdeal.Launch
public import proofs.«01_k».proof.Proof.Gen.KernelIdeal.Points
public import Idealize.ShloMosaic.Lib.Pipeline.ArrRel
public import Idealize.ShloMosaic.Lib.Pipeline.ValueKit.Partial
public import Idealize.ShloMosaic.Lib.WritesUnit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The kernel, run once -/

/-- The table's transposing kernel leaves `k0_pay1` of the block it read in its output buffer. -/
theorem detile_run (d : Dev nD) (i : grid0.Coords) (arg1 : Memref sig .tc .vmem S64x4096 .f32) (h1 : arg1.IsWhole)
    (arg2 : Memref sig .tc .vmem S4096x128 .f32) (h2 : arg2.IsWhole) (X : S64x4096.Idx → Elt F .f32) (Y : S4096x128.Idx → Elt F .f32) :
    (iprop(owns (d.tc : Thread nD τ) arg1 fullShare X ∗ owns (d.tc : Thread nD τ) arg2 fullShare Y) : sProp 𝕄)
      ⊢ wp frame (wpE (defs₀ (F := F)) 𝒱₀ (d.tc : Thread nD τ) none) Set.univ (cc0__detile_body i arg1 h1 arg2 h2)
          fun _ => iprop(owns (d.tc : Thread nD τ) arg1 fullShare X ∗ owns (d.tc : Thread nD τ) arg2 fullShare (k0_pay1 X)) := by
  have hz : ∀ {s : Shape} (hs : s.rank = 2) (inb : ∀ a, (fun _ : Fin s.rank => 0) a + s.size a ≤ s.size a) (y : s.Idx),
      (Rect.unit (s := s) (fun _ => 0) s.size inb).toLoadRect.idx y = y := fun hs inb y => funext fun a => Fin.ext (by
    show 0 + 1 * (y a).val = (y a).val; omega)
  simp only [cc0__detile_body_eq_skeleton]; unfold cc0__detile_body_skel
  unfold owns
  iintro ⟨⟨%f1, %e1, H1⟩, ⟨%f2, %e2, H2⟩⟩
  sl_exec
  sl_step
  isplitl [H1]
  · iexists f1; isplitr; · ipureintro; exact e1
    iexact H1
  · iexists _; isplitr; swap; · iexact H2
    ipureintro
    have hr : View.readAt (Elt F) arg1.view (Rect.unit ![0, 0] S64x4096.size inb_S64x4096_S64x4096_0_0).toLoadRect f1 = X := by
      rw [← e1]; funext y; rw [View.readAt_apply]
      refine congrArg _ (funext fun a => Fin.ext ?_)
      match a with
      | 0 => show 0 + 1 * (y 0).val = (y 0).val; omega
      | 1 => show 0 + 1 * (y 1).val = (y 1).val; omega
    rw [hr]
    funext y
    exact View.read_writes_cons_unit_of_mem (off' := ![0, 0]) arg2.view f2 inb_S4096x128_S4096x128_0_0 (k0_pay1 X) [] y y rfl
      (fun a => match a with | 0 => (Nat.zero_add _).symm | 1 => (Nat.zero_add _).symm)

/-! ## The pipeline's data -/

/-- The levels that the core's recorded waits stay at before the SparseCore call. -/
def early (d : Dev nD) : Set (SemLoc sig × HIx 1) := {p | (K (F := F)).lev (T d, p.1) p.2 ≤ 8 * SparseCore.Cfg.Blocks.fst (Q := 1) (N := 1) 0}

/-- The table's pipeline: the transposed table `V0` is read, `V1` is what its result held before; each point leaves
    `k0_pay1` of the block it fetched, whatever lies beyond the array's end in it. -/
def rd0 (d : Dev nD) (V0 : Buf (Elt F) (b0Loc d)) (V1 : Buf (Elt F) (b1Loc d)) : Pipeline.RDat τ (Elt F) (HIx 1) ℕ UU ℕ cfg0 d where
  A := fun | 0 => V0 | 1 => V1 | ⟨_ + 2, h⟩ => absurd h (Nat.not_lt.2 (Nat.le_add_left _ _))
  after := fun
    | 0 => fun _ Y X => X = Y
    | 1 => fun t _ X => ∃ e, X = k0_pay1 (win0_0.fill (grid0.coords t) e ((win0_0.blk t).view.read (Elt F) V0))
    | ⟨_ + 2, h⟩ => absurd h (Nat.not_lt.2 (Nat.le_add_left _ _))
  Φ _ := Pipeline.scopedRest spec0 d
  q _ := fullShare
  owed _ := (K (F := F)).Otc d 0
  recorded _ := early (F := F) d

/-- The table's call meets its obligation at each block: the body leaves in the block what its description says. -/
theorem body0 (d : Dev nD) (V0 : Buf (Elt F) (b0Loc d)) (V1 : Buf (Elt F) (b1Loc d)) :
    (rd0 d V0 V1).BodyObligation (defs₀ (F := F)) 𝒱₀ none Set.univ := fun t Y hY => by
  obtain ⟨e, he⟩ := ((rd0 d V0 V1).finds_of_fetch (w := 0) (fetch0_0 t) (Y 0)).mp (hY 0)
  rw [bigSep_W0, bigSep_W0]
  show _ ⊢ wp frame (wpE (defs₀ (F := F)) 𝒱₀ (d.tc : Thread nD τ) none) Set.univ (bodyAt0 t) _
  unfold bodyAt0
  rw [show (rd0 d V0 V1).Φ t.succ = (rd0 d V0 V1).Φ t.castSucc from rfl,
    show (rd0 d V0 V1).owesAt none t.succ = (rd0 d V0 V1).owesAt none t.castSucc from rfl]
  iintro ⟨HΦ, HO, H0, H1⟩
  iapply (wp_wand_r frame _ Set.univ)
  isplitl [H0 H1]
  · iapply (detile_run d (grid0.coords t) (win0_0.stage (cfg0.slots t 0)) (hstage0_0 ((cfg0.slots t 0).cast nbuf0_0))
      (win0_1.stage (cfg0.slots t 1)) (hstage0_1 ((cfg0.slots t 1).cast nbuf0_1)) (Y 0) (Y 1))
    isplitl [H0]
    · iexact H0
    · iexact H1
  · iintro %_ ⟨H0, H1⟩
    isplitl [HΦ]; · iexact HΦ
    isplitl [HO]; · iexact HO
    isplitl [H0]
    · iexists (Y 0); isplitr; · ipureintro; rfl
      iexact H0
    · iexists (k0_pay1 (Y 0)); isplitr
      · ipureintro; exact ⟨e, congrArg k0_pay1 he⟩
      iexact H1

/-! ## What it leaves -/

/-- The element `v` at `i` is `k0_pay1` of the fetched block of its rows, at `i`'s place in the block. -/
def Placed (d : Dev nD) (V0 : Buf (Elt F) (b0Loc d)) (i : S1000000x128.Idx) (v : Elt F .f32) : Prop :=
  ∃ (t : Fin grid0.N) (y : S4096x128.Idx) (e : S64x4096.Idx → Elt F .f32),
    (i 0).val = 4096 * t.val + (y 0).val ∧ (i 1).val = (y 1).val
      ∧ v = k0_pay1 (win0_0.fill (grid0.coords t) e ((win0_0.blk t).view.read (Elt F) V0)) y

/-- `tab` is what the table's pipeline may leave. -/
def Detiled (d : Dev nD) (V0 : Buf (Elt F) (b0Loc d)) (tab : Buf (Elt F) (b1Loc d)) : Prop :=
  ∀ i : S1000000x128.Idx, Placed d V0 i (tab i)

/-- The output's blocks cover the whole detiled table. -/
theorem covers0 : win0_1.CoversWhere (fun _ => True) := by decide +kernel

/-- Block `t` of the detiled table starts at row block `t`. -/
theorem index0 : ∀ t : Fin grid0.N, win0_1.index t = ![t.val, 0] := by decide +kernel

/-- Whatever the table's call may leave in its array is a detiled table. -/
theorem detiled_of_arrAt [∀ e, Nonempty (Elt F e)] (d : Dev nD) (V0 : Buf (Elt F) (b0Loc d)) (V1 : Buf (Elt F) (b1Loc d))
    {tab : Buf (Elt F) (b1Loc d)} (h : (rd0 d V0 V1).ArrAt 1 cfg0.N tab) : Detiled d V0 tab := by
  obtain ⟨X, hX, hA⟩ := h.exists_exact
  intro i
  obtain ⟨aft, haft⟩ : ∃ aft : (w : Fin cfg0.W) → Fin cfg0.N → (cfg0.win w).block.Idx → Elt F (cfg0.win w).elt, aft 1 = X :=
    ⟨Function.update (fun _ _ _ => Classical.arbitrary _) 1 X, by rw [Function.update_self]⟩
  have e := hA aft fun u _ _ => by rw [haft]
  rw [e]
  refine Pipeline.Dat.arrAt_forall_of_coversWhere (cfg := cfg0) (c := d) _ 1 (Placed d V0) (fun _ => True) covers0 (fun t hf y => ?_)
    (fun j hj => absurd trivial hj) i (Memref.isWhole_whole _)
  obtain ⟨Y, _, e', he'⟩ := hX t t.isLt hf
  refine ⟨t, win0_1.xinj (grid0.coords t) y, e', ?_, ?_, ?_⟩
  · show win0_1.index t 0 * 4096 + 1 * (y 0).val = 4096 * t.val + (y 0).val
    rw [index0 t]; show t.val * 4096 + 1 * (y 0).val = _; omega
  · show win0_1.index t 1 * 128 + 1 * (y 1).val = (y 1).val
    rw [index0 t]; show 0 * 128 + 1 * (y 1).val = _; omega
  · rw [← he', ← haft]; rfl

end Cert.Proof

end
-- ==== Proof.Enc.lean ====
/-
  The TensorCore pipeline that computes the positional encoding: its kernel run once, its data, what it leaves.
-/
module

public import proofs.«01_k».proof.Proof.Detile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The kernel, run once -/

/-- The encoding's table, as the kernel computes it. -/
def enc : S200x64.Idx → Elt F .f32 :=
  k1_pay1 (k1_pay2 (F := F)) (Scalar.select (Scalar.cmpi .eq 2#32 0#32) 1#32 2#32) k1_pay3 k1_pay4 k1_pay5 k1_pay6

/-- The encoding's kernel fills its output buffer with the encoding. -/
theorem enc_run (d : Dev nD) (arg0 : Memref sig .tc .vmem S200x64 .f32) (h0 : arg0.IsWhole) (Y : S200x64.Idx → Elt F .f32) :
    (owns (d.tc : Thread nD τ) arg0 fullShare Y : sProp 𝕄)
      ⊢ wp frame (wpE (defs₀ (F := F)) 𝒱₀ (d.tc : Thread nD τ) none) Set.univ (cc1__enc_body arg0 h0)
          fun _ => owns (d.tc : Thread nD τ) arg0 fullShare (enc (F := F)) := by
  simp only [cc1__enc_body_eq_skeleton]; unfold cc1__enc_body_skel
  simp only [k1_part1_eq_skeleton]; unfold k1_part1_skel
  unfold owns
  iintro ⟨%f1, %e1, H1⟩
  sl_exec
  sl_step
  iexists _; isplitr; swap; · iexact H1
  ipureintro
  funext y
  exact View.read_writes_cons_unit_of_mem (off' := ![0, 0]) arg0.view f1 inb_S200x64_S200x64_0_0 (enc (F := F)) [] y y rfl
    (fun a => match a with | 0 => (Nat.zero_add _).symm | 1 => (Nat.zero_add _).symm)

/-! ## The pipeline's data -/

/-- The encoding's pipeline: its one point fills its result, which held `V3` before, with the encoding. -/
def rd1 (d : Dev nD) (V3 : Buf (Elt F) (b3Loc d)) : Pipeline.RDat τ (Elt F) (HIx 1) ℕ UU ℕ cfg1 d where
  A := fun | 0 => V3 | ⟨_ + 1, h⟩ => absurd h (Nat.not_lt.2 (Nat.le_add_left _ _))
  after := fun
    | 0 => fun _ _ X => X = enc (F := F)
    | ⟨_ + 1, h⟩ => absurd h (Nat.not_lt.2 (Nat.le_add_left _ _))
  Φ _ := Pipeline.scopedRest spec1 d
  q _ := fullShare
  owed _ := (K (F := F)).Otc d 0
  recorded _ := early (F := F) d

/-- The encoding's call meets its obligation. -/
theorem body1 (d : Dev nD) (V3 : Buf (Elt F) (b3Loc d)) :
    (rd1 d V3).BodyObligation (defs₀ (F := F)) 𝒱₀ none Set.univ := fun t Y _ => by
  rw [bigSep_W1, bigSep_W1]
  show _ ⊢ wp frame (wpE (defs₀ (F := F)) 𝒱₀ (d.tc : Thread nD τ) none) Set.univ (bodyAt1 t) _
  unfold bodyAt1
  rw [show (rd1 d V3).Φ t.succ = (rd1 d V3).Φ t.castSucc from rfl,
    show (rd1 d V3).owesAt none t.succ = (rd1 d V3).owesAt none t.castSucc from rfl]
  iintro ⟨HΦ, HO, H0⟩
  iapply (wp_wand_r frame _ Set.univ)
  isplitl [H0]
  · iapply (enc_run d (win1_0.stage (cfg1.slots t 0)) (hstage1_0 0) (Y 0))
    iexact H0
  · iintro %_ H0
    isplitl [HΦ]; · iexact HΦ
    isplitl [HO]; · iexact HO
    iexists (enc (F := F)); isplitr; · ipureintro; rfl
    iexact H0

/-! ## What it leaves -/

/-- Whatever the encoding's call may leave in its array is the encoding. -/
theorem enc_of_arrAt [∀ e, Nonempty (Elt F e)] (d : Dev nD) (V3 : Buf (Elt F) (b3Loc d))
    {g : Buf (Elt F) (b3Loc d)} (h : (rd1 d V3).ArrAt 0 cfg1.N g) : g = enc (F := F) := by
  have hw : (cfg1.win 0).WholeAt t1_0 := by decide +kernel
  obtain ⟨X, ⟨_, _, hX⟩, hj⟩ := h.emb_eq_of_wholeAt hw
  funext j
  have := hj j
  rw [show X = enc (F := F) from hX] at this
  exact this

end Cert.Proof

end
-- ==== Proof.Regions.lean ====
/-
  The two TensorCore pipelines as regions of @main.
-/
module

public import proofs.«01_k».proof.Proof.Enc
public import Idealize.ShloMosaic.Lib.Pipeline.RegionArrays

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The two pipelines' data together -/

/-- Neither pipeline prefetches a table. -/
abbrev adm : (p : Fin 2) → (pcfgs (F := F) p).Adm := fun p => (cfgs p).toPCfg_adm

/-- The arrays' contents at each pipeline's entry. -/
structure Entry (F : FTy → Type) where
  V0 : (d : Dev nD) → Buf (Elt F) (b0Loc d)
  V1 : (d : Dev nD) → Buf (Elt F) (b1Loc d)
  V3 : (d : Dev nD) → Buf (Elt F) (b3Loc d)

/-- The data of both pipelines. -/
def rdats (En : Entry F) : (p : Fin 2) → (d : Dev nD) → Pipeline.RDat τ (Elt F) (HIx 1) ℕ UU ℕ (Pipeline.pin (pcfgs (F := F)) adm p) d
  | 0 => fun d => rd0 d (En.V0 d) (En.V1 d)
  | 1 => fun d => rd1 d (En.V3 d)
  | ⟨_ + 2, h⟩ => absurd h (Nat.not_lt.2 (Nat.le_add_left _ _))

/-- The staging cells are distinct. -/
theorem phinj : Function.Injective (Pipeline.cellOf (nD := nD) (τ := τ) (Pipeline.pin (pcfgs (F := F)) adm)) := cellOf_inj

/-- What the TensorCore still owes before the SparseCore call, its recorded waits all early. -/
abbrev owesEarly (d : Dev nD) : sProp 𝕄 :=
  iprop(∃ W, ⌜(K (F := F)).WBelow (T d) W (8 * SparseCore.Cfg.Blocks.fst (Q := 1) (N := 1) 0)⌝ ∗ owes (T d) ((K (F := F)).Otc d 0) W)

/-- The TensorCore owes nothing outside the launch. -/
theorem otc_none (d : Dev nD) : ∀ g, (K (F := F)).Otc d 0 g none = 0 := fun g => by
  by_contra h
  have h1 := (K (F := F)).lev_of_Otc_pos (Nat.pos_of_ne_zero h)
  exact absurd h1 (Nat.not_succ_le_zero _)

/-- Within either pipelined call the TensorCore owes what it owes at the start. -/
theorem rdats_owed (En : Entry F) (d : Dev nD) : ∀ (p : Fin 2) (t), (rdats En p d).owed t = (K (F := F)).Otc d 0
  | 0 => fun _ => rfl
  | 1 => fun _ => rfl
  | ⟨_ + 2, h⟩ => absurd h (Nat.not_lt.2 (Nat.le_add_left _ _))

/-- The pipelines' waits are allowed under what the TensorCore owes. -/
theorem waits (En : Entry F) (p : Fin 2) (d : Dev nD) :
    (levAts (K (F := F)).L (K (F := F)).lev : sProp 𝕄)
      ⊢ Pipeline.RDat.cellsWaits (Pipeline.pin (pcfgs (F := F)) adm) (rdats En) none p d :=
  Pipeline.RDat.cellsWaits_intro _ (rdats En) none p d fun w s t => by
    rw [rdats_owed]
    exact (K (F := F)).mayWait_none _ (otc_none d)

/-- What is owed before the launch, in the form that a pipelined call takes. -/
theorem owesAt_of_early (d : Dev nD) (B : Set (SemLoc sig × HIx 1)) :
    owesEarly (F := F) d ⊢ Pipeline.owesWithin d ((K (F := F)).Otc d 0) (early (F := F) d ∪ B) := by
  iintro ⟨%W, %hW, HO⟩
  iexists W
  isplitr
  · ipureintro; exact fun p hp => Or.inl (hW p hp)
  · iexact HO

/-- What a pipelined call leaves owed, in the form of before the launch, if its own waits belong to no launch. -/
theorem early_of_owesAt (d : Dev nD) (B : Set (SemLoc sig × HIx 1)) (hB : ∀ p ∈ B, p.2 = none) :
    (Pipeline.owesWithin d ((K (F := F)).Otc d 0) (early (F := F) d ∪ B) : sProp 𝕄) ⊢ owesEarly (F := F) d := by
  iintro ⟨%W, %hW, HO⟩
  iexists W
  isplitr
  · ipureintro
    intro p hp
    rcases hW hp with h | h
    · exact h
    · rw [show p = (p.1, none) from Prod.ext rfl (hB p h)]; exact Nat.zero_le _
  · iexact HO

/-! ## The two regions of @main -/

/-- The table's region is entered from its two arrays. -/
theorem entry0 (En : Entry F) (d : Dev nD) :
    (iprop(((b0Loc d ↦{fullShare} En.V0 d) ∗ (b1Loc d ↦{fullShare} En.V1 d) ∗ owesEarly (F := F) d)
        ∗ Pipeline.ownSems0 (fun k : PEmpty => k.elim) d ∗ levAts (K (F := F)).L (K (F := F)).lev) : sProp 𝕄)
      ⊢ |={Set.univ}=> iprop((rd0 d (En.V0 d) (En.V1 d)).arrays (rd0 d (En.V0 d) (En.V1 d)).A
          ∗ Pipeline.prefHeld (pcfgs (F := F) 0).pre d (fun _ => fullShare) (adm (F := F) 0).1
          ∗ (rd0 d (En.V0 d) (En.V1 d)).owesAt none 0 ∗ emp ∗ emp) := by
  unfold Pipeline.RDat.arrays
  rw [bigSep_W0, Pipeline.prefHeld_of_none _ rfl]
  iintro ⟨⟨H0, H1, HO⟩, -, -⟩
  imodintro
  isplitl [H0 H1]
  · isplitl [H0]
    · iapply (Entails.of_eq (show (b0Loc d ↦{fullShare} En.V0 d : sProp 𝕄) = _ from by
        rw [show (Finset.univ : Finset (b0Loc d).2.ty.Idx) = (cfg0.win 0).arr.view.set from (Memref.isWhole_whole main_v0).set_eq_univ.symm]; rfl)) $$ H0
    · iapply (Entails.of_eq (show (b1Loc d ↦{fullShare} En.V1 d : sProp 𝕄) = _ from by
        rw [show (Finset.univ : Finset (b1Loc d).2.ty.Idx) = (cfg0.win 1).arr.view.set from (Memref.isWhole_whole main_v1).set_eq_univ.symm]; rfl)) $$ H1
  isplitr; · iempintro
  isplitl [HO]; · iapply (owesAt_of_early d _) $$ HO
  isplitr <;> iempintro

/-- The table's region leaves its arrays, the result laid out. -/
theorem exit0 [∀ e, Nonempty (Elt F e)] (En : Entry F) (d : Dev nD) :
    (iprop((rd0 d (En.V0 d) (En.V1 d)).arraysAt cfg0.N ∗ (rd0 d (En.V0 d) (En.V1 d)).owesAt none (Fin.last cfg0.N) ∗ emp ∗ emp) : sProp 𝕄)
      ⊢ |={Set.univ}=> iprop((b0Loc d ↦{fullShare} En.V0 d) ∗ (∃ tab, ⌜Detiled d (En.V0 d) tab⌝ ∗ (b1Loc d ↦{fullShare} tab)) ∗ owesEarly (F := F) d) := by
  unfold Pipeline.RDat.arraysAt
  rw [bigSep_W0, show (rd0 d (En.V0 d) (En.V1 d)).owesAt none (Fin.last cfg0.N)
    = Pipeline.owesWithin d ((K (F := F)).Otc d 0) (early (F := F) d ∪ cfg0.waitPairs none) from rfl]
  iintro ⟨⟨⟨%f0, %h0, H0⟩, ⟨%f1, %h1, H1⟩⟩, HO, -, -⟩
  imodintro
  rw [(rd0 d (En.V0 d) (En.V1 d)).ArrAt_in 0 rfl] at h0
  isplitl [H0]
  · iapply (Entails.of_eq (show _ = (b0Loc d ↦{fullShare} En.V0 d : sProp 𝕄) from by
        rw [show (Finset.univ : Finset (b0Loc d).2.ty.Idx) = (cfg0.win 0).arr.view.set from (Memref.isWhole_whole main_v0).set_eq_univ.symm, show f0 = En.V0 d from h0]; rfl)) $$ H0
  isplitl [H1]
  · iexists f1; isplitr; · ipureintro; exact detiled_of_arrAt d (En.V0 d) (En.V1 d) h1
    iapply (Entails.of_eq (show _ = (b1Loc d ↦{fullShare} f1 : sProp 𝕄) from by
        rw [show (Finset.univ : Finset (b1Loc d).2.ty.Idx) = (cfg0.win 1).arr.view.set from (Memref.isWhole_whole main_v1).set_eq_univ.symm]; rfl)) $$ H1
  · iapply (early_of_owesAt d (cfg0.waitPairs none) (fun p ⟨_, _, hp⟩ => by rw [hp])) $$ HO

/-- The table's region: from the transposed table, its laid-out form. -/
def seg0 [∀ e, Nonempty (Elt F e)] (En : Entry F) :
    Pipeline.RDat.RegionSeg pcfgs adm (rdats En) none (defs₀ (F := F)) 𝒱₀ (K (F := F)).L (K (F := F)).lev 0 where
  win := winFacts0.to₀
  block_pos := block_pos0
  stage_whole := stage_whole0
  K := PEmpty
  osem := fun k => k.elim
  ho := Pipeline.OwnSemFacts.none _
  hbody := fun d => body0 d (En.V0 d) (En.V1 d)
  hwaits := fun d => waits En 0 d
  pre := fun d => iprop((b0Loc d ↦{fullShare} En.V0 d) ∗ (b1Loc d ↦{fullShare} En.V1 d) ∗ owesEarly (F := F) d)
  post := fun d => iprop((b0Loc d ↦{fullShare} En.V0 d) ∗ (∃ tab, ⌜Detiled d (En.V0 d) tab⌝ ∗ (b1Loc d ↦{fullShare} tab)) ∗ owesEarly (F := F) d)
  X := fun _ => iprop(emp)
  Y := fun _ => iprop(emp)
  Z := fun _ => iprop(emp)
  hentry := fun d => entry0 En d
  hin := fun d => sep_elim_right.trans sep_elim_right
  hout := fun d => by
    rw [Pipeline.ownSems0_none, show (rdats En 0 d).Φ (Fin.last (Pipeline.pin (pcfgs (F := F)) adm 0).N)
      = Pipeline.scopedRest (Pipeline.pin (pcfgs (F := F)) adm 0).spec d from rfl]
    iintro H
    isplitr; · iempintro
    isplitr; · iempintro
    iexact H
  hexit := fun d => exit0 En d

/-- The encoding's region is entered from its array. -/
theorem entry1 (En : Entry F) (d : Dev nD) :
    (iprop(((b3Loc d ↦{fullShare} En.V3 d) ∗ owesEarly (F := F) d)
        ∗ Pipeline.ownSems0 (fun k : PEmpty => k.elim) d ∗ levAts (K (F := F)).L (K (F := F)).lev) : sProp 𝕄)
      ⊢ |={Set.univ}=> iprop((rd1 d (En.V3 d)).arrays (rd1 d (En.V3 d)).A
          ∗ Pipeline.prefHeld (pcfgs (F := F) 1).pre d (fun _ => fullShare) (adm (F := F) 1).1
          ∗ (rd1 d (En.V3 d)).owesAt none 0 ∗ emp ∗ emp) := by
  unfold Pipeline.RDat.arrays
  rw [bigSep_W1, Pipeline.prefHeld_of_none _ rfl]
  iintro ⟨⟨H0, HO⟩, -, -⟩
  imodintro
  isplitl [H0]
  · iapply (Entails.of_eq (show (b3Loc d ↦{fullShare} En.V3 d : sProp 𝕄) = _ from by
        rw [show (Finset.univ : Finset (b3Loc d).2.ty.Idx) = (cfg1.win 0).arr.view.set from (Memref.isWhole_whole main_v3).set_eq_univ.symm]; rfl)) $$ H0
  isplitr; · iempintro
  isplitl [HO]; · iapply (owesAt_of_early d _) $$ HO
  isplitr <;> iempintro

/-- The encoding's region leaves the encoding. -/
theorem exit1 [∀ e, Nonempty (Elt F e)] (En : Entry F) (d : Dev nD) :
    (iprop((rd1 d (En.V3 d)).arraysAt cfg1.N ∗ (rd1 d (En.V3 d)).owesAt none (Fin.last cfg1.N) ∗ emp ∗ emp) : sProp 𝕄)
      ⊢ |={Set.univ}=> iprop((b3Loc d ↦{fullShare} (enc (F := F) : Buf (Elt F) (b3Loc d))) ∗ owesEarly (F := F) d) := by
  unfold Pipeline.RDat.arraysAt
  rw [bigSep_W1, show (rd1 d (En.V3 d)).owesAt none (Fin.last cfg1.N)
    = Pipeline.owesWithin d ((K (F := F)).Otc d 0) (early (F := F) d ∪ cfg1.waitPairs none) from rfl]
  iintro ⟨⟨%f0, %h0, H0⟩, HO, -, -⟩
  imodintro
  isplitl [H0]
  · iapply (Entails.of_eq (show _ = (b3Loc d ↦{fullShare} (enc (F := F) : Buf (Elt F) (b3Loc d)) : sProp 𝕄) from by
        rw [show (Finset.univ : Finset (b3Loc d).2.ty.Idx) = (cfg1.win 0).arr.view.set from (Memref.isWhole_whole main_v3).set_eq_univ.symm, show f0 = enc (F := F) from enc_of_arrAt d (En.V3 d) h0]; rfl)) $$ H0
  · iapply (early_of_owesAt d (cfg1.waitPairs none) (fun p ⟨_, _, hp⟩ => by rw [hp])) $$ HO

/-- The encoding's region: from anything, the encoding. -/
def seg1 [∀ e, Nonempty (Elt F e)] (En : Entry F) :
    Pipeline.RDat.RegionSeg pcfgs adm (rdats En) none (defs₀ (F := F)) 𝒱₀ (K (F := F)).L (K (F := F)).lev 1 where
  win := winFacts1.to₀
  block_pos := block_pos1
  stage_whole := stage_whole1
  K := PEmpty
  osem := fun k => k.elim
  ho := Pipeline.OwnSemFacts.none _
  hbody := fun d => body1 d (En.V3 d)
  hwaits := fun d => waits En 1 d
  pre := fun d => iprop((b3Loc d ↦{fullShare} En.V3 d) ∗ owesEarly (F := F) d)
  post := fun d => iprop((b3Loc d ↦{fullShare} (enc (F := F) : Buf (Elt F) (b3Loc d))) ∗ owesEarly (F := F) d)
  X := fun _ => iprop(emp)
  Y := fun _ => iprop(emp)
  Z := fun _ => iprop(emp)
  hentry := fun d => entry1 En d
  hin := fun d => sep_elim_right.trans sep_elim_right
  hout := fun d => by
    rw [Pipeline.ownSems0_none, show (rdats En 1 d).Φ (Fin.last (Pipeline.pin (pcfgs (F := F)) adm 1).N)
      = Pipeline.scopedRest (Pipeline.pin (pcfgs (F := F)) adm 1).spec d from rfl]
    iintro H
    isplitr; · iempintro
    isplitr; · iempintro
    iexact H
  hexit := fun d => exit1 En d

end Cert.Proof

end
-- ==== Proof.Call.lean ====
/-
  The two regions called from @main.
-/
module

public import proofs.«01_k».proof.Proof.Regions

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Each region run inside @main -/

/-- The call of a pipeline's region, in the pipelines' own signature. -/
def enter (p : Fin 2) : Prog (TpuEff nD τ sig (Elt F) (ΛP (F := F)) .tc) PUnit.{1} := .op (.customCall (Pipeline.entry p) ()) fun _ => .ret ⟨⟩

/-- The call as @main makes it is the pipeline's entry, lifted past the SparseCore labels. -/
theorem enter_lift (p : Fin 2) : (Prog.lift (.customCall (SparseCore.inner (Pipeline.entry p)) ()) : Prog (TpuEff nD τ sig (Elt F) (SparseCore.Sig (ΛP (F := F)) 1) .tc) PUnit.{1})
    = SparseCore.liftProg (Q := 1) (enter (F := F) p) := rfl

/-- The table's region, called from @main with SparseCores about. -/
theorem region0_wp [∀ e, Nonempty (Elt F e)] (En : Entry F) (d : Dev nD) (Q : PUnit.{1} → sProp 𝕄) :
    (iprop(((boundary (d.tc : Thread nD τ) ∗ (b0Loc d ↦{fullShare} En.V0 d)
            ∗ (∃ tab, ⌜Detiled d (En.V0 d) tab⌝ ∗ (b1Loc d ↦{fullShare} tab)) ∗ owesEarly (F := F) d) -∗ Q ⟨⟩)
        ∗ boundary (d.tc : Thread nD τ) ∗ ((b0Loc d ↦{fullShare} En.V0 d) ∗ (b1Loc d ↦{fullShare} En.V1 d) ∗ owesEarly (F := F) d)
        ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄)
      ⊢ wp frame (wpE ((K (F := F)).defs D) 𝒱 (T d) none) Set.univ (SparseCore.liftProg (Q := 1) (enter (F := F) 0)) Q := by
  refine BIBase.Entails.trans ?_ ((K (F := F)).wp_liftProg (D (F := F)) 𝒱 (T d) Set.univ none (enter (F := F) 0) Q)
  have key := Pipeline.RDat.RegionSeg.wp (nD := nD) (τ := τ) (Ix := HIx 1) (Name := ℕ) (U := UU) (Lvl := ℕ) (pcfgs (F := F)) adm
    (rdats En) none phinj (EP (F := F)) (defs₀ (F := F)) 𝒱₀ (K (F := F)).L (K (F := F)).lev (seg0 En) d none
    (fun u h => absurd h (Option.not_mem_none u)) (α := PUnit.{1}) (fun _ => .ret ⟨⟩) Q
  rw [show (seg0 En).pre d = iprop((b0Loc d ↦{fullShare} En.V0 d) ∗ (b1Loc d ↦{fullShare} En.V1 d) ∗ owesEarly (F := F) d) from rfl,
    show (seg0 En).post d = iprop((b0Loc d ↦{fullShare} En.V0 d) ∗ (∃ tab, ⌜Detiled d (En.V0 d) tab⌝ ∗ (b1Loc d ↦{fullShare} tab)) ∗ owesEarly (F := F) d) from rfl] at key
  refine BIBase.Entails.trans ?_ key
  iintro ⟨H, Hrest⟩
  isplitl [H]
  · iintro Hp
    rw [wp_ret]; imodintro
    iapply H; iexact Hp
  · iexact Hrest

/-- The encoding's region likewise. -/
theorem region1_wp [∀ e, Nonempty (Elt F e)] (En : Entry F) (d : Dev nD) (Q : PUnit.{1} → sProp 𝕄) :
    (iprop(((boundary (d.tc : Thread nD τ) ∗ (b3Loc d ↦{fullShare} (enc (F := F) : Buf (Elt F) (b3Loc d))) ∗ owesEarly (F := F) d) -∗ Q ⟨⟩)
        ∗ boundary (d.tc : Thread nD τ) ∗ ((b3Loc d ↦{fullShare} En.V3 d) ∗ owesEarly (F := F) d)
        ∗ levAts (K (F := F)).L (K (F := F)).lev
        ∗ Pipeline.cellsGhost (Pipeline.pin (pcfgs (F := F)) adm) EP 1 d ∗ Pipeline.toksInit (Pipeline.pin (pcfgs (F := F)) adm) EP 1 d) : sProp 𝕄)
      ⊢ wp frame (wpE ((K (F := F)).defs D) 𝒱 (T d) none) Set.univ (SparseCore.liftProg (Q := 1) (enter (F := F) 1)) Q := by
  refine BIBase.Entails.trans ?_ ((K (F := F)).wp_liftProg (D (F := F)) 𝒱 (T d) Set.univ none (enter (F := F) 1) Q)
  have key := Pipeline.RDat.RegionSeg.wp (nD := nD) (τ := τ) (Ix := HIx 1) (Name := ℕ) (U := UU) (Lvl := ℕ) (pcfgs (F := F)) adm
    (rdats En) none phinj (EP (F := F)) (defs₀ (F := F)) 𝒱₀ (K (F := F)).L (K (F := F)).lev (seg1 En) d none
    (fun u h => absurd h (Option.not_mem_none u)) (α := PUnit.{1}) (fun _ => .ret ⟨⟩) Q
  rw [show (seg1 En).pre d = iprop((b3Loc d ↦{fullShare} En.V3 d) ∗ owesEarly (F := F) d) from rfl,
    show (seg1 En).post d = iprop((b3Loc d ↦{fullShare} (enc (F := F) : Buf (Elt F) (b3Loc d))) ∗ owesEarly (F := F) d) from rfl] at key
  refine BIBase.Entails.trans ?_ key
  iintro ⟨H, Hrest⟩
  isplitl [H]
  · iintro Hp
    rw [wp_ret]; imodintro
    iapply H; iexact Hp
  · iexact Hrest

end Cert.Proof

end
-- ==== Proof.Pay.lean ====
/-
  What the SparseCore call hands its tiles and gets back, and its tiles meeting that contract.
-/
module

public import proofs.«01_k».proof.Proof.Tile
public import proofs.«01_k».proof.Proof.Call

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-! ## What the SparseCore call reads and writes -/

/-- The transposed table, the flat indices, the flat encoding. -/
def trW (d : Dev nD) : Buf (Elt F) (b0Loc d) := (transpose S64x1000000 [1, 0] · transposes_S1000000x64_S64x1000000_1_0 : (⟨S1000000x64, .f32⟩ : BufTy).Contents (Elt F) → (⟨S64x1000000, .f32⟩ : BufTy).Contents (Elt F)) (m (a1Loc d))
/-- The flattened indices on device `d`. -/
def flatX (d : Dev nD) : S819200.Idx → BitVec 32 := fun i => (m (a0Loc d) : S4096x200.Idx → BitVec 32) (Shape.reshapeEquiv shapeCasts_S4096x200_S819200 i)
/-- The flattened encoding. -/
def flatE : S12800.Idx → F .f32 := fun i => enc (F := F) (Shape.reshapeEquiv shapeCasts_S200x64_S12800 i)

/-- An output entry from a table: the row its index names, plus the encoding's row of its position. -/
def Entry1 (tab : S1000000x128.Idx → F .f32) (ix : S819200.Idx → BitVec 32) (en : S12800.Idx → F .f32) (x : S819200x64.Idx) (v : F .f32) : Prop :=
  ∀ (u : S819200.Idx) (t : S1000000x128.Idx) (z : S12800.Idx), (u 0).val = (x 0).val → (t 0).val = (ix u).toNat → (t 1).val = (x 1).val →
    (z 0).val = (x 0).val % 200 * 64 + (x 1).val → v = FloatOps.addf (φ := .f32) (tab t) (en z)

/-- An output array whose every entry in `S` comes from some detiled table. -/
def Right (d : Dev nD) (S : Finset S819200x64.Idx) (f : S819200x64.Idx → F .f32) : Prop :=
  ∀ x ∈ S, ∃ tab : S1000000x128.Idx → F .f32, Detiled d (trW m d) tab ∧ Entry1 tab (flatX m d) (flatE (F := F)) x (f x)

/-! ## One worker's share -/

/-- What worker `w` is handed: shares of the table, the indices and the encoding, and its 320 chunks of the output. -/
def goW (d : Dev nD) (w : ℕ) : sProp (MT nD τ sig (HIx 1) (Elt F) ℕ UU ℕ) :=
  iprop(∃ tab : S1000000x128.Idx → F .f32, ⌜Detiled d (trW m d) tab⌝ ∗ (b1Loc d ↦{peel fullShare w} tab) ∗ (b2Loc d ↦{peel fullShare w} flatX m d) ∗ (b4Loc d ↦{peel fullShare w} flatE (F := F))
    ∗ bigSep (Finset.range 320) fun n => iprop(∃ f0 : S819200x64.Idx → F .f32, b5Loc d ↦[chunkSet (320 * w + n)]{fullShare} f0))
/-- What it hands back: its chunks, each right. -/
def tdW (d : Dev nD) (w : ℕ) : sProp (MT nD τ sig (HIx 1) (Elt F) ℕ UU ℕ) :=
  bigSep (Finset.range 320) fun n => iprop(∃ f : S819200x64.Idx → F .f32, ⌜Right m d (chunkSet (320 * w + n)) f⌝ ∗ b5Loc d ↦[chunkSet (320 * w + n)]{fullShare} f)

/-- What a worker is handed may be stored in a signal. -/
instance goW_storable (d : Dev nD) (w : ℕ) : BI.Storable (upEmb : UEmb _ 𝕄) (goW m d w) := by unfold goW; infer_instance
/-- What a worker hands back may be stored in a signal. -/
instance tdW_storable (d : Dev nD) (w : ℕ) : BI.Storable (upEmb : UEmb _ 𝕄) (tdW m d w) := by unfold tdW; infer_instance

/-- A core's share: its sixteen workers'. -/
def stC (d : Dev nD) (c : ℕ) : sProp (MT nD τ sig (HIx 1) (Elt F) ℕ UU ℕ) := bigSep Finset.univ fun i : Fin 16 => goW m d (2 * i.val + c)
/-- What a core hands back: its sixteen workers' chunks. -/
def dnC (d : Dev nD) (c : ℕ) : sProp (MT nD τ sig (HIx 1) (Elt F) ℕ UU ℕ) := bigSep Finset.univ fun i : Fin 16 => tdW m d (2 * i.val + c)
/-- A core's share may be stored in a signal. -/
instance stC_storable (d : Dev nD) (c : ℕ) : BI.Storable (upEmb : UEmb _ 𝕄) (stC m d c) := by unfold stC; infer_instance
/-- What a core hands back may be stored in a signal. -/
instance dnC_storable (d : Dev nD) (c : ℕ) : BI.Storable (upEmb : UEmb _ 𝕄) (dnC m d c) := by unfold dnC; infer_instance

/-- What the launch's signals carry. -/
def P : (K (F := F)).Pay (nD := nD) (Val := Elt F) (Name := ℕ) (U := UU) where
  st q d c := match q with | 0 => stC m d c.val
  dn q d c := match q with | 0 => dnC m d c.val
  go q d c i := match q with | 0 => goW m d (2 * i.val + c.val)
  td q d c i := match q with | 0 => tdW m d (2 * i.val + c.val)
  x := fun _ _ => iprop(emp)

/-- All that the launch's signals carry may be stored in them. -/
instance P_storable : (P (F := F) m).IsStorable where
  st q d c := match q with | 0 => (inferInstance : BI.Storable (upEmb : UEmb _ 𝕄) (stC m d c.val))
  dn q d c := match q with | 0 => (inferInstance : BI.Storable (upEmb : UEmb _ 𝕄) (dnC m d c.val))
  go q d c i := match q with | 0 => (inferInstance : BI.Storable (upEmb : UEmb _ 𝕄) (goW m d (2 * i.val + c.val)))
  td q d c i := match q with | 0 => (inferInstance : BI.Storable (upEmb : UEmb _ 𝕄) (tdW m d (2 * i.val + c.val)))

/-! ## The task meets its contract -/

/-- Every flat index names a row. -/
def PreOK : Prop := ∀ (d : Dev nD) (j : S819200.Idx), (flatX m d j).toNat < 1000000

/-- The output computed from one table. -/
def outOf (tab : S1000000x128.Idx → F .f32) (ix : S819200.Idx → BitVec 32) (en : S12800.Idx → F .f32) : S819200x64.Idx → F .f32 := fun x =>
  if h : (ix (ix1 (x 0).val (x 0).isLt)).toNat < 1000000 then
    FloatOps.addf (φ := .f32) (tab (ix2 (ix (ix1 (x 0).val (x 0).isLt)).toNat (x 1).val h (lt_trans (x 1).isLt (by decide))))
      (en (ix1 ((x 0).val % 200 * 64 + (x 1).val) (by have h0 := Nat.mod_lt (x 0).val (show 200 > 0 by decide); have h1 : (x 1).val < 64 := (x 1).isLt; omega)))
  else en (ix1 0 (by decide))

/-- An index of one axis is known by its coordinate. -/
theorem ix1_ext {n : ℕ} {u : (⟨1, ![n]⟩ : Shape).Idx} {a : ℕ} {h : a < n} (e : (u 0).val = a) : u = ix1 a h := by
  funext k; match k with | 0 => exact Fin.ext e
/-- An index of two axes is known by its coordinates. -/
theorem ix2_ext {n k : ℕ} {u : (⟨2, ![n, k]⟩ : Shape).Idx} {a b : ℕ} {ha : a < n} {hb : b < k} (e0 : (u 0).val = a) (e1 : (u 1).val = b) : u = ix2 a b ha hb := by
  funext j; match j with | 0 => exact Fin.ext e0 | 1 => exact Fin.ext e1

/-- It is what the definition of an entry asks. -/
theorem outOf_entry (tab : S1000000x128.Idx → F .f32) (ix : S819200.Idx → BitVec 32) (en : S12800.Idx → F .f32) (hix : ∀ j, (ix j).toNat < 1000000) (x : S819200x64.Idx) :
    Entry1 tab ix en x (outOf tab ix en x) := by
  intro u t z hu ht0 ht1 hz
  have eu := ix1_ext (h := (x 0).isLt) hu
  subst eu
  unfold outOf
  rw [dif_pos (hix _)]
  exact congrArg₂ _ (congrArg tab (ix2_ext ht0 ht1).symm) (congrArg en (ix1_ext hz).symm)

/-- And what a worker's chunks ask of it. -/
theorem outOf_sums (L : grid2.Coords) (tab : S1000000x128.Idx → F .f32) (ix : S819200.Idx → BitVec 32) (en : S12800.Idx → F .f32) (hix : ∀ j, (ix j).toNat < 1000000) :
    Sums L tab (mine L ix) en (outOf tab ix en) := by
  intro x u t z hx ht0 ht1 hz
  refine outOf_entry tab ix en hix x (ix1 (x 0).val (x 0).isLt) t z rfl ?_ ht1 ?_
  · rw [ht0]; unfold mine
    exact congrArg BitVec.toNat (congrArg ix (ix1_ext (u := ix1 _ _) hx.symm))
  · rw [hz, hx]; omega

/-- The grid coordinates of tile `s` of core `c`. -/
def coordsV (c : Fin (grid2.bound 0)) (s : Fin (grid2.bound 1)) : grid2.Coords :=
  fun | 0 => c | 1 => s | ⟨_ + 2, h⟩ => absurd h (Nat.not_lt.2 (Nat.le_add_left _ _))

/-- A tile's body is the task at the tile's grid point. -/
theorem defs₀_vector (c : Fin τ.nSC) (s : Fin τ.nSub) :
    defs₀ (F := F) (.scVector c s) 2 () = SparseCore.onTile hcore2 hsub2 (fun c s => task (F := F) (coordsV c s)) ⟨⟩ c s := rfl

/-- A record of waits that allows for fewer waits also meets the launch's form. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The worker at `L`, from its share to its chunks. -/
theorem worker (hpre : PreOK m) (d : Dev nD) (c : Fin (grid2.bound 0)) (s : Fin (grid2.bound 1))
    (O : CellTallies nD τ sig (HIx 1)) (W : Waits sig (HIx 1)) (hO : ∀ z, O z none = 0) :
    iprop(levAts (K (F := F)).L (K (F := F)).lev ∗ emp ∗ goW m d (2 * s.val + c.val)
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ (task (F := F) (coordsV c s))
          fun _ => iprop(tdW m d (2 * s.val + c.val) ∗ scopedBufs (thr d (coordsV c s)) ∗ scopedSems0 (thr d (coordsV c s)) ∗ oweW d (coordsV c s) O W) := by
  have h1 (tab : S1000000x128.Idx → F .f32) (ht : Detiled d (trW m d) tab) (n : ℕ) : summed d (coordsV c s) (outOf tab (flatX m d) (flatE (F := F))) n
      ⊢ (iprop(∃ f : S819200x64.Idx → F .f32, ⌜Right m d (chunkSet (320 * (2 * s.val + c.val) + n)) f⌝ ∗ b5Loc d ↦[chunkSet (320 * (2 * s.val + c.val) + n)]{fullShare} f) : sProp 𝕄) := by
    unfold summed
    iintro H
    iexists (outOf tab (flatX m d) (flatE (F := F)))
    isplitr
    · ipureintro
      exact fun x _ => ⟨tab, ht, outOf_entry tab _ _ (hpre d) x⟩
    · iexact H
  have hb (tab : S1000000x128.Idx → F .f32) (ht : Detiled d (trW m d) tab) :
      handedBack d (coordsV c s) (outOf tab (flatX m d) (flatE (F := F))) ⊢ (tdW m d (2 * s.val + c.val) : sProp 𝕄) := by
    unfold handedBack tdW
    exact bigSep_mono fun n _ => h1 tab ht n
  have hgo (tab : S1000000x128.Idx → F .f32) : iprop((b1Loc d ↦{peel fullShare (2 * s.val + c.val)} tab) ∗ (b2Loc d ↦{peel fullShare (2 * s.val + c.val)} flatX m d) ∗ (b4Loc d ↦{peel fullShare (2 * s.val + c.val)} flatE (F := F))
      ∗ bigSep (Finset.range 320) fun n => iprop(∃ f0 : S819200x64.Idx → F .f32, b5Loc d ↦[chunkSet (320 * (2 * s.val + c.val) + n)]{fullShare} f0))
      = handed d (coordsV c s) tab (flatX m d) (flatE (F := F)) (peel fullShare (2 * s.val + c.val)) (peel fullShare (2 * s.val + c.val)) (peel fullShare (2 * s.val + c.val)) := by
    unfold handed; rfl
  unfold goW
  iintro ⟨Hlv, He, ⟨%tab, %ht, Hsh⟩, Hb, Hs, Hw⟩
  iapply (wp_wand_r frame _ Set.univ)
  isplitl [Hlv He Hsh Hb Hs Hw]
  · iapply (tile_body d (coordsV c s) tab (flatX m d) (flatE (F := F)) (outOf tab (flatX m d) (flatE (F := F))) (peel fullShare (2 * s.val + c.val)) (peel fullShare (2 * s.val + c.val)) (peel fullShare (2 * s.val + c.val))
      facts (hpre d) (outOf_sums _ tab _ _ (hpre d)) O W hO)
    isplitl [Hlv]; · iexact Hlv
    isplitl [He]; · iexact He
    isplitl [Hsh]; · iapply (Entails.of_eq (hgo tab)) $$ Hsh
    isplitl [Hb]; · iexact Hb
    isplitl [Hs] <;> iassumption
  · iintro %u ⟨H, Hrest⟩
    isplitl [H]
    · iapply (hb tab ht); iexact H
    · iexact Hrest

set_option maxRecDepth 16384 in
/-- The launch's obligation of every tile. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (worker m hpre d ⟨_, hci.1⟩ ⟨_, hci.2⟩ O W hO).trans (wp_mono frame _ _ fun _ => obl_post)

/-- A core's share is its workers'. -/
theorem vecSplit : (K (F := F)).VecSplit' (P m) 0 := by
  intro d c
  show stC m d c.val ⊢ |={Set.univ}=> iprop((bigSep Finset.univ fun i : Fin 16 => goW m d (2 * i.val + c.val))
      ∗ ((bigSep Finset.univ fun i : Fin 16 => tdW m d (2 * i.val + c.val)) -∗ dnC m d c.val))
  unfold stC dnC
  iintro H; imodintro
  isplitl [H]; · iexact H
  iintro H; iexact H

end Cert.Proof

end
-- ==== Proof.Deal.lean ====
/-
  The output in chunks, dealt to the workers and gathered again.
-/
module

public import proofs.«01_k».proof.Proof.Pay

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-! ## Separating conjunctions over ranges -/

/-- The first two of three conjuncts may be exchanged. -/
theorem sep_turn' (A B C : sProp 𝕄) : iprop(C ∗ A ∗ B) = iprop(A ∗ C ∗ B) := by
  have h (A C : sProp 𝕄) : iprop(C ∗ A ∗ B) ⊢ iprop(A ∗ C ∗ B) := by
    iintro ⟨HC, HA, HB⟩
    isplitl [HA]; · iexact HA
    isplitl [HC] <;> iassumption
  exact BI.Entails.antisymm (h _ _) (h _ _)

/-- Two conjuncts may be exchanged. -/
theorem sep_swap (A B : sProp 𝕄) : iprop(A ∗ B) = iprop(B ∗ A) := by
  have h (A B : sProp 𝕄) : iprop(A ∗ B) ⊢ iprop(B ∗ A) := by
    iintro ⟨HA, HB⟩
    isplitl [HB] <;> iassumption
  exact BI.Entails.antisymm (h _ _) (h _ _)

/-- A conjunction over `n + k` numbers is one over the first `n` and one over the following `k`. -/
theorem bigSep_range_add (Φ : ℕ → sProp 𝕄) (n k : ℕ) :
    bigSep (Finset.range (n + k)) Φ = iprop(bigSep (Finset.range n) Φ ∗ bigSep (Finset.range k) fun j => Φ (n + j)) := by
  induction k with
  | zero =>
    rw [Finset.range_zero, bigSep_empty]
    refine BI.Entails.antisymm ?_ ?_
    · show bigSep (Finset.range n) Φ ⊢ iprop(bigSep (Finset.range n) Φ ∗ emp)
      iintro H; isplitl [H]; · iexact H
      iempintro
    · show iprop(bigSep (Finset.range n) Φ ∗ emp) ⊢ bigSep (Finset.range n) Φ
      iintro ⟨H, -⟩; iexact H
  | succ k ih =>
    rw [show n + (k + 1) = (n + k) + 1 from rfl, Finset.range_add_one (n := n + k), SparseCore.bigSep_insert' Finset.notMem_range_self, ih,
      Finset.range_add_one (n := k), SparseCore.bigSep_insert' Finset.notMem_range_self]
    exact (sep_turn' _ _ _)

/-- A conjunction over `a * b` numbers is one over `a` runs of `b` numbers. -/
theorem bigSep_range_mul (Φ : ℕ → sProp 𝕄) (a b : ℕ) :
    bigSep (Finset.range (a * b)) Φ = bigSep (Finset.range a) fun i => bigSep (Finset.range b) fun j => Φ (b * i + j) := by
  induction a with
  | zero => rw [Nat.zero_mul, Finset.range_zero, bigSep_empty, bigSep_empty]
  | succ a ih =>
    rw [Nat.succ_mul, bigSep_range_add, ih, Finset.range_add_one (n := a), SparseCore.bigSep_insert' Finset.notMem_range_self, Nat.mul_comm a b]
    exact sep_swap _ _

/-- A conjunction over the numbers below `n` may be written either way. -/
theorem bigSep_fin_range (Φ : ℕ → sProp 𝕄) (n : ℕ) : (bigSep Finset.univ fun i : Fin n => Φ i.val) = bigSep (Finset.range n) Φ := by
  rw [← Nat.Iio_eq_range, ← Fin.map_valEmbedding_univ, bigSep_map]
  rfl

/-- Two cores of sixteen tiles are the thirty-two workers. -/
theorem bigSep_workers (Φ : ℕ → sProp 𝕄) :
    (bigSep Finset.univ fun c : Fin 2 => bigSep Finset.univ fun i : Fin 16 => Φ (2 * i.val + c.val)) = bigSep (Finset.range 32) Φ := by
  refine (bigSep_fin_two _).trans ?_
  refine (bigSep_sep' (Finset.univ : Finset (Fin 16)) (fun i => Φ (2 * i.val + (0 : Fin 2).val)) (fun i => Φ (2 * i.val + (1 : Fin 2).val))).symm.trans ?_
  rw [show (32 : ℕ) = 16 * 2 from rfl, bigSep_range_mul, ← bigSep_fin_range (fun i => bigSep (Finset.range 2) fun j => Φ (2 * i + j))]
  refine bigSep_congr fun i _ => ?_
  rw [← bigSep_fin_range (fun j => Φ (2 * i.val + j)), bigSep_fin_two]
  rfl

/-! ## The output's chunks -/

/-- Distinct chunks share no element. -/
theorem chunks_disjoint (n : ℕ) : ∀ i ∈ Finset.range n, ∀ j ∈ Finset.range n, i ≠ j → Disjoint (chunkSet i) (chunkSet j) := by
  intro i _ j _ h
  rw [Finset.disjoint_left]
  intro x hx hy
  rw [mem_chunkSet] at hx hy
  omega

/-- Each element of the result lies in one of the 10240 chunks. -/
theorem in_chunk (x : S819200x64.Idx) : ∃ k ∈ Finset.range 10240, x ∈ chunkSet k := by
  have hx : (x 0).val < 819200 := (x 0).isLt
  refine ⟨(x 0).val / 80, Finset.mem_range.2 (by omega), mem_chunkSet.2 ⟨by omega, by omega⟩⟩

/-- The 10240 chunks make up the result. -/
theorem chunks_cover : (Finset.range 10240).biUnion chunkSet = Finset.univ := by
  ext x
  simp only [Finset.mem_biUnion, Finset.mem_range, mem_chunkSet, Finset.mem_univ, iff_true]
  have hx : (x 0).val < 819200 := (x 0).isLt
  exact ⟨(x 0).val / 80, by omega, by omega, by omega⟩

/-- The output is the workers' chunks. -/
theorem out_chunks (d : Dev nD) (f : S819200x64.Idx → F .f32) :
    (b5Loc d ↦{fullShare} f : sProp 𝕄) = bigSep (Finset.range 32) fun w => bigSep (Finset.range 320) fun n => b5Loc d ↦[chunkSet (320 * w + n)]{fullShare} f := by
  rw [← bigSep_range_mul (fun k => b5Loc d ↦[chunkSet k]{fullShare} f) 32 320, ← pointsTo_biUnion (Finset.range (32 * 320)) (ℓ := b5Loc d) chunkSet (chunks_disjoint _), show 32 * 320 = 10240 from rfl, chunks_cover]

/-- What the call takes, dealt to the workers. -/
theorem deal (d : Dev nD) (tab : S1000000x128.Idx → F .f32) (ht : Detiled d (trW m d) tab) (f : S819200x64.Idx → F .f32) :
    iprop((b1Loc d ↦{fullShare} tab) ∗ (b2Loc d ↦{fullShare} flatX m d) ∗ (b4Loc d ↦{fullShare} flatE (F := F)) ∗ (b5Loc d ↦{fullShare} f))
      ⊢ (bigSep Finset.univ fun c : Fin 2 => stC m d c.val : sProp 𝕄) := by
  have hw (w : ℕ) : iprop((b1Loc d ↦{peel fullShare w} tab) ∗ (b2Loc d ↦{peel fullShare w} flatX m d) ∗ (b4Loc d ↦{peel fullShare w} flatE (F := F))
      ∗ bigSep (Finset.range 320) fun n => b5Loc d ↦[chunkSet (320 * w + n)]{fullShare} f) ⊢ (goW m d w : sProp 𝕄) := by
    unfold goW
    have hn (n : ℕ) : (b5Loc d ↦[chunkSet (320 * w + n)]{fullShare} f : sProp 𝕄) ⊢ iprop(∃ f0 : S819200x64.Idx → F .f32, b5Loc d ↦[chunkSet (320 * w + n)]{fullShare} f0) := by
      iintro H; iexists f; iexact H
    have hns : (bigSep (Finset.range 320) fun n => (b5Loc d ↦[chunkSet (320 * w + n)]{fullShare} f : sProp 𝕄))
        ⊢ bigSep (Finset.range 320) fun n => iprop(∃ f0 : S819200x64.Idx → F .f32, b5Loc d ↦[chunkSet (320 * w + n)]{fullShare} f0) := bigSep_mono fun n _ => hn n
    iintro ⟨H1, H2, H3, H4⟩
    iexists tab
    isplitr; · ipureintro; exact ht
    isplitl [H1]; · iexact H1
    isplitl [H2]; · iexact H2
    isplitl [H3]; · iexact H3
    iapply hns; iexact H4
  have hall : iprop((bigSep (Finset.range 32) fun w => b1Loc d ↦{peel fullShare w} tab) ∗ (bigSep (Finset.range 32) fun w => b2Loc d ↦{peel fullShare w} flatX m d)
      ∗ (bigSep (Finset.range 32) fun w => b4Loc d ↦{peel fullShare w} flatE (F := F)) ∗ bigSep (Finset.range 32) fun w => bigSep (Finset.range 320) fun n => b5Loc d ↦[chunkSet (320 * w + n)]{fullShare} f)
      ⊢ (bigSep (Finset.range 32) (goW m d) : sProp 𝕄) := by
    rw [← bigSep_sep', ← bigSep_sep', ← bigSep_sep']
    exact bigSep_mono fun w _ => hw w
  unfold stC
  rw [bigSep_workers (goW m d)]
  refine BIBase.Entails.trans ?_ hall
  rw [peeled (ℓ := b1Loc d) Finset.univ tab fullShare 32, peeled (ℓ := b2Loc d) Finset.univ (flatX m d) fullShare 32, peeled (ℓ := b4Loc d) Finset.univ (flatE (F := F)) fullShare 32, out_chunks]
  iintro ⟨⟨H1, -⟩, ⟨H2, -⟩, ⟨H3, -⟩, H4⟩
  isplitl [H1]; · iexact H1
  isplitl [H2]; · iexact H2
  isplitl [H3]; · iexact H3
  iexact H4

/-- What the workers hand back, gathered: the whole output, right everywhere. -/
theorem gather [∀ e, Nonempty (Elt F e)] (d : Dev nD) :
    (bigSep Finset.univ fun c : Fin 2 => dnC m d c.val) ⊢ (iprop(∃ g : S819200x64.Idx → F .f32, ⌜Right m d Finset.univ g⌝ ∗ b5Loc d ↦{fullShare} g) : sProp 𝕄) := by
  have : Nonempty (S819200x64.Idx → F .f32) := ⟨fun _ => Classical.choice (inferInstanceAs (Nonempty (Elt F .f32)))⟩
  unfold dnC
  rw [bigSep_workers (tdW m d)]
  unfold tdW
  rw [← bigSep_range_mul (fun k => iprop(∃ f : S819200x64.Idx → F .f32, ⌜Right m d (chunkSet k) f⌝ ∗ b5Loc d ↦[chunkSet k]{fullShare} f)) 32 320, show 32 * 320 = 10240 from rfl]
  refine (bigSep_exists_pi (Finset.range 10240) (fun k (f : S819200x64.Idx → F .f32) => (iprop(⌜Right m d (chunkSet k) f⌝ ∗ b5Loc d ↦[chunkSet k]{fullShare} f) : sProp 𝕄))).trans ?_
  iintro ⟨%fs, H⟩
  ihave H1 := (bigSep_pure_sep (Finset.range 10240) (fun k => Right m d (chunkSet k) (fs k)) (fun k => (b5Loc d ↦[chunkSet k]{fullShare} fs k : sProp 𝕄))) $$ H
  icases H1 with ⟨%hr, H⟩
  ihave H' := (pointsTo_biUnion_join (ℓ := b5Loc d) (q := fullShare) (Val := Elt F) (Finset.range 10240) chunkSet fs (fs 0) (chunks_disjoint _)) $$ H
  icases H' with ⟨%g, %hg, Hg⟩
  rw [chunks_cover]
  iexists g
  isplitr
  · ipureintro
    intro x _
    obtain ⟨k, hk, hxk⟩ := in_chunk x
    rw [hg k hk x hxk]
    exact hr k hk x hxk
  · iexact Hg

end Cert.Proof

end
-- ==== Proof.Host.lean ====
/-
  An array operation of @main, run from the arrays it reads and writes.
-/
module

public import proofs.«01_k».proof.Proof.Setup
public import proofs.«01_k».proof.Proof.Gen.KernelIdeal.Launch
public import Idealize.ShloMosaic.Lib.StableHlo.Run

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (devRef_ne_of_ne)

variable [FloatOps F]

/-! ## An array operation of @main with one array in and one out -/

/-- Run such an operation: the array read is kept, the array written takes the value. -/
theorem host_step (m : (ℓ : Loc nD τ sig) → Buf (Elt F) ℓ) (d : Dev nD) (x y : Ref sig .tc) (hne : x ≠ y) (op : HloOp τ sig (Elt F)) {hp : (SparseCore.T d).2.kind.runsHlo = true}
    (hb : op.bufs = {Proc.devRef .tc x, Proc.devRef .tc y}) (hw : op.writes = {Proc.devRef .tc y}) (hf : op.fresh = ∅)
    (fx : Buf (Elt F) ((SparseCore.T d).loc x)) (fy r : Buf (Elt F) ((SparseCore.T d).loc y))
    (hr : ∀ V : Valuation τ sig (Elt F), V (Proc.devRef .tc x) = fx → op.result V (Proc.devRef .tc y) = r) (Q : PUnit.{1} → sProp 𝕄) :
    iprop(((boundary (SparseCore.T d) ∗ ((SparseCore.T d).loc x ↦{fullShare} fx) ∗ ((SparseCore.T d).loc y ↦{fullShare} r)) -∗ Q ⟨⟩)
        ∗ boundary (SparseCore.T d) ∗ ((SparseCore.T d).loc x ↦{fullShare} fx) ∗ ((SparseCore.T d).loc y ↦{fullShare} fy))
      ⊢ wp frame (wpE ((K (F := F)).defs D) 𝒱 (SparseCore.T d) none) Set.univ (hlo hp op (fun _ => .ret ⟨⟩)) Q := by
  have hne' : Proc.devRef .tc x ≠ (Proc.devRef .tc y : DevRef τ sig) := devRef_ne_of_ne hne
  obtain ⟨V, hVx, hVy⟩ : ∃ V : Valuation τ sig (Elt F), V (Proc.devRef .tc x) = fx ∧ V (Proc.devRef .tc y) = fy :=
    ⟨Function.update (Function.update (fun b => m (d, b)) (Proc.devRef .tc x) fx) (Proc.devRef .tc y) fy,
      (Function.update_of_ne hne' _ _).trans (Function.update_self _ _ _), Function.update_self _ _ _⟩
  have hbs (W : Valuation τ sig (Elt F)) : (bigSep op.bufs fun b => ((SparseCore.T d : Thread nD τ).1, b) ↦{fullShare} W b)
      = (iprop(((SparseCore.T d).loc x ↦{fullShare} W (Proc.devRef .tc x)) ∗ ((SparseCore.T d).loc y ↦{fullShare} W (Proc.devRef .tc y))) : sProp 𝕄) := by
    rw [hb, SparseCore.bigSep_insert' (by rwa [Finset.mem_singleton]), bigSep_singleton]
  have h0 := Idealize.ShloMosaic.StableHlo.wp_hlo_within (Q := Q) 𝒱 (defs := (K (F := F)).defs D) (SparseCore.T d) none Set.univ (hp := hp) (op := op) (k := fun _ => .ret ⟨⟩) (S := op.bufs) subset_rfl (V := V) hf
  unfold Idealize.ShloMosaic.StableHlo.held at h0
  rw [hbs, hbs, hVx, hVy, hr V hVx, op.result_of_not_mem V (by rw [hw, Finset.mem_singleton]; exact hne'), hVx] at h0
  iintro ⟨HQ, Hb, Hx, Hy⟩
  iapply h0 $$ [Hb Hx Hy]
  · isplitl [Hb]; · iexact Hb
    isplitl [Hx] <;> iassumption
  iintro H
  rw [wp_ret]; imodintro
  iapply HQ; iexact H

end Cert.Proof

end
-- ==== Proof.Launch.lean ====
/-
  The launch: its ghost state, and the arrays of @main.
-/
module

public import proofs.«01_k».proof.Proof.Deal
public import proofs.«01_k».proof.Proof.Host

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The ghost state at launch -/

/-- The handshakes' cells, the pipelines' cells, and no counter. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- The pipelines' part, per device: each region's cells and tokens. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

/-- The pipelines' part of the initial resource gives each device its pipelines' cells and tokens. -/
theorem own_pipes : (BI.own (embR (initOf (Pipeline.cells (Pipeline.pin (pcfgs (F := F)) adm) phinj) (Pipeline.launchToks (Pipeline.pin (pcfgs (F := F)) adm) phinj), (1 : Counters))) : sProp 𝕄)
    ⊢ |={Set.univ}=> (bigSep Finset.univ fun d : Dev nD => G (F := F) d) := by
  have h1 : (BI.own (embR (initOf (Pipeline.cells (Pipeline.pin (pcfgs (F := F)) adm) phinj) (Pipeline.launchToks (Pipeline.pin (pcfgs (F := F)) adm) phinj), (1 : Counters))) : sProp 𝕄)
      ⊢ BI.own (EP (initOf (Pipeline.cells (Pipeline.pin (pcfgs (F := F)) adm) phinj) (Pipeline.launchToks (Pipeline.pin (pcfgs (F := F)) adm) phinj))) := Entails.of_eq rfl
  refine BIBase.Entails.trans h1 ?_
  refine BIBase.Entails.trans (Pipeline.fund_ghost (Pipeline.pin (pcfgs (F := F)) adm) (EP (F := F)) phinj) ?_
  unfold G
  rw [bigSep_sep']
  iintro H
  imod H
  imodintro; iexact H

/-- Nothing at each of a set's members is nothing. -/
theorem emp_everywhere {I : Type} (s : Finset I) : (bigSep s fun _ => iprop(emp)) = (iprop(emp) : sProp 𝕄) := bigSep_emp_const s

/-- The initial resource gives the handshakes' cells, each device's pipelines and the tiles' extras, which are nothing. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (initOf (Pipeline.cells (Pipeline.pin (pcfgs (F := F)) adm) phinj) (Pipeline.launchToks (Pipeline.pin (pcfgs (F := F)) adm) phinj), (1 : Counters))) $$ Hu
  icases H with ⟨HH, HP⟩
  imod (own_pipes (F := F)) $$ HP with HG
  imodintro
  isplitl [HH]; · iexact HH
  isplitl [HG]; · iexact HG
  rw [show (bigSep Finset.univ fun thr : Thread nD τ => bigSep Finset.univ fun q : Fin 1 => (P m).x q thr) = bigSep Finset.univ fun _ => (iprop(emp) : sProp 𝕄) from
    bigSep_congr fun _ _ => bigSep_univ_of_subsingleton (0 : Fin 1), emp_everywhere]
  iempintro

/-! ## @main's arrays -/

/-- The arrays of @main are its two arguments and its seven values. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (b0Loc d ↦{fullShare} W main_v0)
      ∗ (b1Loc d ↦{fullShare} W main_v1) ∗ (b2Loc d ↦{fullShare} W main_v2) ∗ (b3Loc d ↦{fullShare} W main_v3) ∗ (b4Loc d ↦{fullShare} W main_v4)
      ∗ (b5Loc d ↦{fullShare} W main_v5) ∗ (b6Loc d ↦{fullShare} W main_v6)) := by
  unfold unscopedBufs
  rw [show (Finset.univ.filter fun b : Ref sig .tc => ¬ b.isScoped) = {main_arg0, main_arg1, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The output at its three axes. -/
def shaped (g : S819200x64.Idx → F .f32) : S4096x200x64.Idx → F .f32 := fun i => g (Shape.reshapeEquiv shapeCasts_S819200x64_S4096x200x64 i)

/-- The arrays at each region's entry. -/
def En : Entry F where
  V0 := trW m
  V1 := fun d => m (b1Loc d)
  V3 := fun d => m (b3Loc d)

/-- What @main leaves: its arguments, and the result, right everywhere. -/
def FIN (d : Dev nD) : sProp 𝕄 :=
  iprop((a0Loc d ↦{fullShare} m (a0Loc d)) ∗ (a1Loc d ↦{fullShare} m (a1Loc d))
    ∗ ∃ g : S819200x64.Idx → F .f32, ⌜Right m d Finset.univ g⌝ ∗ (b6Loc d ↦{fullShare} shaped g))

end Cert.Proof

end
-- ==== Proof.Main.lean ====
/-
  @main on the TensorCore, from its arguments to its result.
-/
module

public import proofs.«01_k».proof.Proof.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The four array operations of @main -/

/-- The host's transposition of the table. -/
theorem step_transpose (d : Dev nD) (Q : PUnit.{1} → sProp 𝕄) :
    iprop(((boundary (SparseCore.T d) ∗ (a1Loc d ↦{fullShare} m (a1Loc d)) ∗ (b0Loc d ↦{fullShare} trW m d)) -∗ Q ⟨⟩)
        ∗ boundary (SparseCore.T d) ∗ (a1Loc d ↦{fullShare} m (a1Loc d)) ∗ (b0Loc d ↦{fullShare} m (b0Loc d)))
      ⊢ wp frame (wpE ((K (F := F)).defs D) 𝒱 (SparseCore.T d) none) Set.univ
          (hlo rfl (StableHlo.unary main_arg1 main_v0 ((transpose S64x1000000 [1, 0] · transposes_S1000000x64_S64x1000000_1_0) : (⟨S1000000x64, .f32⟩ : BufTy).Contents (Elt F) → (⟨S64x1000000, .f32⟩ : BufTy).Contents (Elt F))) (fun _ => .ret ⟨⟩)) Q :=
  host_step m d main_arg1 main_v0 (by decide) _ rfl rfl rfl _ _ _ (fun V h => (StableHlo.unary_result _ _ _ _ _ V).trans (by rw [h]; rfl)) Q

/-- The host's flattening of the indices. -/
theorem step_indices (d : Dev nD) (Q : PUnit.{1} → sProp 𝕄) :
    iprop(((boundary (SparseCore.T d) ∗ (a0Loc d ↦{fullShare} m (a0Loc d)) ∗ (b2Loc d ↦{fullShare} flatX m d)) -∗ Q ⟨⟩)
        ∗ boundary (SparseCore.T d) ∗ (a0Loc d ↦{fullShare} m (a0Loc d)) ∗ (b2Loc d ↦{fullShare} m (b2Loc d)))
      ⊢ wp frame (wpE ((K (F := F)).defs D) 𝒱 (SparseCore.T d) none) Set.univ
          (hlo rfl (StableHlo.reshape main_arg0 main_v2 (rfl : (.i32 : EltTy) = .i32) shapeCasts_S4096x200_S819200) (fun _ => .ret ⟨⟩)) Q :=
  host_step m d main_arg0 main_v2 (by decide) _ rfl rfl rfl _ _ _ (fun V h => (StableHlo.reshape_result _ _ _ _ _ _ V).trans (by rw [h]; rfl)) Q

/-- The host's flattening of the encoding. -/
theorem step_encoding (d : Dev nD) (Q : PUnit.{1} → sProp 𝕄) :
    iprop(((boundary (SparseCore.T d) ∗ (b3Loc d ↦{fullShare} (enc (F := F) : Buf (Elt F) (b3Loc d))) ∗ (b4Loc d ↦{fullShare} flatE (F := F))) -∗ Q ⟨⟩)
        ∗ boundary (SparseCore.T d) ∗ (b3Loc d ↦{fullShare} (enc (F := F) : Buf (Elt F) (b3Loc d))) ∗ (b4Loc d ↦{fullShare} m (b4Loc d)))
      ⊢ wp frame (wpE ((K (F := F)).defs D) 𝒱 (SparseCore.T d) none) Set.univ
          (hlo rfl (StableHlo.reshape main_v3 main_v4 (rfl : (.f32 : EltTy) = .f32) shapeCasts_S200x64_S12800) (fun _ => .ret ⟨⟩)) Q :=
  host_step m d main_v3 main_v4 (by decide) _ rfl rfl rfl _ _ _ (fun V h => (StableHlo.reshape_result _ _ _ _ _ _ V).trans (by rw [h]; rfl)) Q

/-- The host's reshaping of the result. -/
theorem step_result (d : Dev nD) (g : S819200x64.Idx → F .f32) (Q : PUnit.{1} → sProp 𝕄) :
    iprop(((boundary (SparseCore.T d) ∗ (b5Loc d ↦{fullShare} g) ∗ (b6Loc d ↦{fullShare} shaped g)) -∗ Q ⟨⟩)
        ∗ boundary (SparseCore.T d) ∗ (b5Loc d ↦{fullShare} g) ∗ (b6Loc d ↦{fullShare} m (b6Loc d)))
      ⊢ wp frame (wpE ((K (F := F)).defs D) 𝒱 (SparseCore.T d) none) Set.univ
          (hlo rfl (StableHlo.reshape main_v5 main_v6 (rfl : (.f32 : EltTy) = .f32) shapeCasts_S819200x64_S4096x200x64) (fun _ => .ret ⟨⟩)) Q :=
  host_step m d main_v5 main_v6 (by decide) _ rfl rfl rfl _ _ _ (fun V h => (StableHlo.reshape_result _ _ _ _ _ _ V).trans (by rw [h]; rfl)) Q

/-! ## @main -/

/-- What the call's start hands over is the two cores' shares. -/
theorem st0_eq (d : Dev nD) : (bigSep Finset.univ fun c : Fin ((K (F := F)).nCore 0) => (P m).st 0 d c) = (bigSep Finset.univ fun c : Fin 2 => stC m d c.val : sProp 𝕄) := rfl
/-- What the call's end hands back is the two cores' results. -/
theorem dn0_eq (d : Dev nD) : (bigSep Finset.univ fun c : Fin ((K (F := F)).nCore 0) => (P m).dn 0 d c) = (bigSep Finset.univ fun c : Fin 2 => dnC m d c.val : sProp 𝕄) := rfl

/-- The launch's context has the levels of its semaphores. -/
theorem ctx_lev (κ : GSem nD τ sig → ℕ) : (K (F := F)).ctx EH (P m) κ ⊢ (levAts (K (F := F)).L (K (F := F)).lev : sProp 𝕄) := by
  unfold SparseCore.Cfg.ctx
  iintro ⟨H, -⟩; iexact H

/-- A device's pipelines' resource is the two calls' cells and the two calls' tokens. -/
theorem G_open (d : Dev nD) : G (F := F) d
    = iprop((Pipeline.cellsGhost (Pipeline.pin (pcfgs (F := F)) adm) EP 0 d ∗ Pipeline.cellsGhost (Pipeline.pin (pcfgs (F := F)) adm) EP 1 d)
      ∗ (Pipeline.toksInit (Pipeline.pin (pcfgs (F := F)) adm) EP 0 d ∗ Pipeline.toksInit (Pipeline.pin (pcfgs (F := F)) adm) EP 1 d)) := by
  unfold G
  rw [bigSep_fin_two, bigSep_fin_two]
  rfl

/-- The TensorCore's state before the call, what it owes taken out. -/
theorem tcSt_open (d : Dev nD) : ∃ R : sProp 𝕄, ((K (F := F)).tcSt EH d 0 : sProp 𝕄) = iprop(owesEarly (F := F) d ∗ R) := ⟨_, rfl⟩

set_option maxRecDepth 16384 in
/-- @main on device `d`'s TensorCore: from its arguments to the result, the arguments kept. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_open (F := F) d
  unfold SparseCore.Cfg.tcRes SparseCore.Cfg.tcEnd
  rw [unscopedBufs_eq, G_open]
  simp only [main, wp_bind, wp_pure, enter_lift]
  iintro ⟨#Hctx, Hst, ⟨Hb, ⟨Ha0, Ha1, H0, H1, H2, H3, H4, H5, H6⟩, Hts, -⟩, ⟨Hc0, Hc1⟩, ⟨Ht0, Ht1⟩⟩
  ihave #Hlev := (ctx_lev m κ) $$ Hctx
  ihave Hst' := (Entails.of_eq hR) $$ Hst
  icases Hst' with ⟨Howe, HR⟩
  iapply (step_transpose m d _)
  isplitr [Hb Ha1 H0]
  swap
  · isplitl [Hb]; · iexact Hb
    isplitl [Ha1] <;> iassumption
  iintro ⟨Hb, Ha1, H0⟩
  iapply (region0_wp (En m) d _)
  isplitr [Hb H0 H1 Howe Hc0 Ht0]
  swap
  · isplitl [Hb]; · iexact Hb
    isplitl [H0 H1 Howe]
    · isplitl [H0]; · iexact H0
      isplitl [H1]; · iexact H1
      iexact Howe
    isplitr; · iexact Hlev
    isplitl [Hc0] <;> iassumption
  iintro ⟨Hb, H0, ⟨%tab, %htab, H1⟩, Howe⟩
  iapply (step_indices m d _)
  isplitr [Hb Ha0 H2]
  swap
  · isplitl [Hb]; · iexact Hb
    isplitl [Ha0] <;> iassumption
  iintro ⟨Hb, Ha0, H2⟩
  iapply (region1_wp (En m) d _)
  isplitr [Hb H3 Howe Hc1 Ht1]
  swap
  · isplitl [Hb]; · iexact Hb
    isplitl [H3 Howe]
    · isplitl [H3]; · iexact H3
      iexact Howe
    isplitr; · iexact Hlev
    isplitl [Hc1] <;> iassumption
  iintro ⟨Hb, H3, Howe⟩
  iapply (step_encoding m d _)
  isplitr [Hb H3 H4]
  swap
  · isplitl [Hb]; · iexact Hb
    isplitl [H3] <;> iassumption
  iintro ⟨Hb, H3, H4⟩
  ihave Hst := (Entails.of_eq hR.symm) $$ [Howe HR]
  · isplitl [Howe] <;> iassumption
  ihave Hdeal := (deal m d tab htab (m (b5Loc d))) $$ [H1 H2 H4 H5]
  · isplitl [H1]; · iexact H1
    isplitl [H2]; · iexact H2
    isplitl [H4]; · iexact H4
    iexact H5
  iapply ((K (F := F)).wp_run (D (F := F)) 𝒱 (EH := EH) (P := P m) κ d 0) $$ [Hst Hdeal Hb Hts Ha0 Ha1 H6]
  isplitr; · iexact Hctx
  isplitl [Hst]; · iexact Hst
  isplitl [Hdeal]
  · rw [st0_eq]; iexact Hdeal
  iintro ⟨Hst, Hdn⟩
  ihave Hdn' := (Entails.of_eq (dn0_eq m d)) $$ Hdn
  ihave Hg := (gather m d) $$ Hdn'
  icases Hg with ⟨%g, %hg, H5⟩
  iapply (step_result m d g _)
  isplitr [Hb H5 H6]
  swap
  · isplitl [Hb]; · iexact Hb
    isplitl [H5] <;> iassumption
  iintro ⟨Hb, H5, H6⟩
  imodintro
  isplitl [Hst]; · iexact Hst
  isplitr [Hb Hts]
  · unfold FIN
    isplitl [Ha0]; · iexact Ha0
    isplitl [Ha1]; · iexact Ha1
    iexists g
    isplitr; · ipureintro; exact hg
    iexact H6
  isplitl [Hb] <;> iassumption

end Cert.Proof

end
-- ==== Proof.Run.lean ====
/-
  The run of the whole program.
-/
module

public import proofs.«01_k».proof.Proof.Main

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-- What a final memory says of device `d`: the arguments unchanged, the result right at every entry. -/
def Ends (d : Dev nD) (mem : (ℓ : Loc nD τ sig) → Buf (Elt F) ℓ) : Prop :=
  mem (a0Loc d) = m (a0Loc d) ∧ mem (a1Loc d) = m (a1Loc d) ∧ ∃ g : S819200x64.Idx → F .f32, Right m d Finset.univ g ∧ mem (b6Loc d) = (shaped g : Buf (Elt F) (b6Loc d))

set_option maxRecDepth 16384 in
/-- What @main ends with says that the result is as claimed in the memory that is left. -/
theorem hfin (d : Dev nD) (s' : Phys nD τ sig (Elt F)) : iprop(FIN m d ∗ SI s') ⊢ (⌜Ends m d s'.mem.mem⌝ : sProp 𝕄) := by
  unfold FIN
  iintro ⟨⟨H0, H1, %g, %hg, H6⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := b6Loc d) (I := Finset.univ) (q := fullShare) (f := (shaped g : Buf (Elt F) (b6Loc d)))) $$ [HSI H6]
  · isplitl [HSI] <;> iassumption
  icases H with %h6
  ipureintro
  exact ⟨funext fun i => h0 i (Finset.mem_univ i), funext fun i => h1 i (Finset.mem_univ i), g, hg, funext fun i => h6 i (Finset.mem_univ i)⟩

/-- The end of a run: every device's arguments unchanged and result right, every semaphore at zero. -/
def QC : PUnit × MemSt nD τ sig (Elt F) → Prop := fun r => (∀ d : Dev nD, Ends m d r.2.mem) ∧ r.2.sem = fun _ => 0

/-- The program runs, from any memory whose indices all name rows, to such an end. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => G (F := F) d) (FIN m) (u₀ (F := F)) (sep_elim_left.trans (hu₀ m)) (hmain m ρ) (fun d s' => Ends m d s'.mem.mem) (hfin m) (QC m) (fun _ h hz => ⟨h, hz⟩)

end Cert.Proof

end
-- ==== Proof.Frames.lean ====
/-
  The frames of the kernel and of its idealization.
-/
module

public import proofs.«01_k».proof.Defs
public import proofs.«01_k».proof.Proof.Run
public import proofs.«01_k».proof.Proof.Gen.Kernel
public import proofs.«01_k».proof.Proof.Gen.Pre_in_table
public import Idealize.ShloMosaic.Lib.ReduceAll

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A signed word from 0 up to 1000000 is, as a natural number, below 1000000. -/
theorem word_lt (v : BitVec 32) (e : IntOp.andi (IntOp.cmpi .sge v 0#32) (IntOp.cmpi .slt v 1000000#32) = 1#1) : v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition says every index names a row of the table. -/
theorem rows_of_pre [FloatOps F] (x : IVec Cert.Pre_in_table.S4096x200 32) (W : FVec F Cert.Pre_in_table.S1000000x64 .f32)
    (h : Cert.Pre_in_table.fn (F := F) x W = fun _ => 1#1) (i : Cert.Pre_in_table.S4096x200.Idx) : (x i).toNat < 1000000 := by
  have e := congrFun h (fun k => k.elim0)
  have hs : Subsingleton Cert.Pre_in_table.S_.Idx := ⟨fun a b => funext fun k => k.elim0⟩
  unfold Cert.Pre_in_table.fn at e
  have e' := Host.reduce_andi_all _ _ _ _ _ e i
  exact word_lt _ e'

/-- Under the precondition every index on every device names a row of the table. -/
theorem ok_of_pre [FloatOps F] (m : (ℓ : Loc nD τ sig) → Buf (Elt F) ℓ)
    (h : ∀ d : Dev nD, Cert.Pre_in_table.fn (F := F) (m (a0Loc d)) (m (a1Loc d)) = fun _ => 1#1) : PreOK m :=
  fun d j => rows_of_pre (m (a0Loc d)) (m (a1Loc d)) (h d) _

/-- The idealized kernel's frame. -/
theorem frame_KernelIdeal : Cert.quiescent_KernelIdeal := fun m ρ hpre =>
  (θ_run Cert.KernelIdeal.defs _ _).mono (fun _ h => ⟨fun c => ⟨(h.1 c).1, (h.1 c).2.1⟩, h.2⟩) (run_main (F := Ideal) m ρ (ok_of_pre m hpre))

/-- The kernel and its idealization have the same bodies. -/
theorem bodies_eq : ∀ p ℓ a, (Cert.Kernel.defs₀ (F := Bits)) p ℓ a = Cert.KernelIdeal.defs₀ (F := Bits) p ℓ a
  | .tc, 0, _ => rfl
  | .tc, 1, _ => rfl
  | .tc, 2, _ => rfl
  | .scVector _ _, 0, _ => rfl
  | .scVector _ _, 1, _ => rfl
  | .scVector _ _, 2, _ => rfl
  | .scScalar _, 0, _ => rfl
  | .scScalar _, 1, _ => rfl
  | .scScalar _, 2, _ => rfl
  | _, ⟨_ + 3, h⟩, _ => absurd h (Nat.not_lt.2 (Nat.le_add_left _ _))

/-- The kernel and the idealized kernel have the same bodies. -/
theorem defs_eq : Cert.Kernel.defs (F := Bits) = Cert.KernelIdeal.defs (F := Bits) :=
  congrArg (fun X => (Cert.KernelIdeal.sc (F := Bits)).defs (Pipeline.defs Cert.KernelIdeal.pcfgs X))
    (funext fun p => funext fun ℓ => funext fun a => bodies_eq p ℓ a)

/-- The kernel's frame: its text is the idealized kernel's. -/
theorem frame_Kernel : Cert.quiescent_Kernel := fun m ρ hpre => by
  have h := (θ_run (Cert.KernelIdeal.defs (F := Bits)) (Cert.KernelIdeal.threads (F := Bits)) ⟨m, fun _ => 0, ρ⟩).mono
    (Q := QC (F := Bits) m) (Q' := fun r => (∀ c : Dev nD, r.2.mem (a0Loc c) = m (a0Loc c) ∧ r.2.mem (a1Loc c) = m (a1Loc c)) ∧ r.2.sem = fun _ => 0)
    (fun _ h => ⟨fun c => ⟨(h.1 c).1, (h.1 c).2.1⟩, h.2⟩) (run_main (F := Bits) m ρ (ok_of_pre m hpre))
  rw [← defs_eq] at h
  exact h

end Cert.Proof

end
-- ==== Proof.RefFrame.lean ====
/-
  The frame of the reference.
-/
module

public import proofs.«01_k».proof.Defs
public import proofs.«01_k».proof.Proof.Setup
public import proofs.«01_k».proof.Proof.Gen.Pre_in_table
public import proofs.«01_k».proof.Proof.Gen.ReferenceIdeal.Run
public import Idealize.ShloMosaic.Adequacy

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The reference's frame; it declares no semaphore. -/
theorem frame_ReferenceIdeal : Cert.quiescent_ReferenceIdeal := by
  intro m ρ _
  exact (θ_run Cert.ReferenceIdeal.defs _ _).mono (fun r h => ⟨fun c => ⟨(h c).2.1, (h c).2.2⟩, Idealize.ShloMosaic.sem_eq_zero_of_no_sems (by decide) r.2⟩)
    (Cert.ReferenceIdeal.Value.run (F := Ideal) m ρ)

/-- The same under the precondition. -/
theorem frame_ReferenceIdeal_pre : Cert.quiescent_ReferenceIdeal_pre_in_table := fun m ρ _ => frame_ReferenceIdeal m ρ trivial

end Cert.Proof

end
-- ==== Proof.TableIdeal.lean ====
/-
  Over the reals the transposing kernel leaves the table in the first 64 columns of each row.
-/
module

public import proofs.«01_k».proof.Proof.Detile
public import Idealize.ShloMosaic.PureOps.Ideal.Laws
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The product with the identity -/

/-- The contracted axis has at least 64 elements. -/
theorem contr_size : ∀ a : Fin dot_S64x4096_S64x64_S4096x64_0_0_1_1_n_n.contr.rank, 64 ≤ dot_S64x4096_S64x64_S4096x64_0_0_1_1_n_n.contr.size a := by decide

/-- A sum over the contracted shape's indices against the identity's column `n`. -/
theorem dot_eye (X : S64x4096.Idx → EReal) (E : S64x64.Idx → EReal) (hE : ∀ z, E z = if (z 0).val = (z 1).val then 1 else 0)
    (r n : ℕ) (hr : r < 4096) (hn : n < 64) :
    FloatOps.matmul (F := Ideal) (φ₁ := .f32) (φ₂ := .f32) dot_S64x4096_S64x64_S4096x64_0_0_1_1_n_n none X E (constant S4096x64 .f32 0x00000000#32) (ix2 r n hr hn)
      = X (ix2 n r hn hr) := by
  rw [Ideal.matmul_constant_zero_apply]
  have e : ∀ k : dot_S64x4096_S64x64_S4096x64_0_0_1_1_n_n.contr.Idx,
      X (dot_S64x4096_S64x64_S4096x64_0_0_1_1_n_n.lhsIdx (ix2 r n hr hn) k) * E (dot_S64x4096_S64x64_S4096x64_0_0_1_1_n_n.rhsIdx (ix2 r n hr hn) k)
        = if k = (fun a => ⟨n, lt_of_lt_of_le hn (contr_size a)⟩) then X (ix2 n r hn hr) else 0 := fun k => by
    have h0 : (dot_S64x4096_S64x64_S4096x64_0_0_1_1_n_n.lhsIdx (ix2 r n hr hn) k 0).val = (k ⟨0, by decide⟩).val := rfl
    have h1 : (dot_S64x4096_S64x64_S4096x64_0_0_1_1_n_n.lhsIdx (ix2 r n hr hn) k 1).val = r := rfl
    have h2 : (dot_S64x4096_S64x64_S4096x64_0_0_1_1_n_n.rhsIdx (ix2 r n hr hn) k 0).val = (k ⟨0, by decide⟩).val := rfl
    have h3 : (dot_S64x4096_S64x64_S4096x64_0_0_1_1_n_n.rhsIdx (ix2 r n hr hn) k 1).val = n := rfl
    rw [hE, h2, h3]
    by_cases hk : (k ⟨0, by decide⟩).val = n
    · rw [if_pos hk, if_pos (funext fun a => Fin.ext (by
        have ha : a = ⟨0, by decide⟩ := Fin.ext (by have := a.isLt; exact Nat.lt_one_iff.mp this)
        rw [ha]; exact hk)), mul_one]
      refine congrArg X (funext fun a => Fin.ext ?_)
      match a with
      | 0 => exact h0.trans hk
      | 1 => exact h1
    · rw [if_neg hk, if_neg (fun h => hk (by rw [h])), mul_zero]
  rw [Finset.sum_congr rfl fun k _ => e k]
  exact Fintype.sum_ite_eq' _ _

/-- The kernel's identity matrix. -/
theorem eye_apply (z : S64x64.Idx) :
    sitofp (F := Ideal) .f32 (extui 32 (cmpi .eq (addi (iota .tc S64x64 32 [0] iota_S64x64_d0_w32) (broadcast S64x64 0#32)) (iota .tc S64x64 32 [1] iota_S64x64_d1_w32)) natLt_1_32) z
      = if (z 0).val = (z 1).val then (1 : EReal) else 0 := by
  have key : ∀ a b : Fin 64, ((IntOp.cmpi .eq (IntOp.addi (BitVec.ofNat 32 a.val) 0#32) (BitVec.ofNat 32 b.val)).setWidth 32).toInt = if a.val = b.val then 1 else 0 := by decide
  have h := key (z 0) (z 1)
  show ((((IntOp.cmpi .eq (IntOp.addi (iota .tc S64x64 32 [0] iota_S64x64_d0_w32 z) 0#32) (iota .tc S64x64 32 [1] iota_S64x64_d1_w32 z)).setWidth 32).toInt : ℝ) : EReal) = _
  rw [iota_single_apply .tc S64x64 32 0 iota_S64x64_d0_w32 z, iota_single_apply .tc S64x64 32 1 iota_S64x64_d1_w32 z, h]
  by_cases e : (z 0).val = (z 1).val
  · rw [if_pos e, if_pos e]; norm_num
  · rw [if_neg e, if_neg e]; norm_num

/-- The transposing kernel's result: the block's transpose, in the first 64 columns. -/
theorem pay1_apply (X : S64x4096.Idx → EReal) (y : S4096x128.Idx) (h : (y 1).val < 64) :
    k0_pay1 (F := Ideal) X y = X (ix2 (y 1).val (y 0).val h (y 0).isLt) := by
  unfold k0_pay1
  refine (concatenate_pair_apply_left (s₁ := S4096x64) (s₂ := S4096x64) (t := S4096x128) 1 _ _ _ y rfl (ix2 (y 0).val (y 1).val (y 0).isLt h : S4096x64.Idx) (fun b => match b with | 0 => rfl | 1 => rfl)).trans ?_
  rw [shapeCast_self]
  exact dot_eye X _ eye_apply _ _ _ _

/-! ## The detiled table -/

/-- Block `t` of the transposed table starts at column block `t`. -/
theorem coords0 : ∀ t : Fin grid0.N, win0_0.index t = ![0, t.val] := by decide +kernel

/-- An entry of a block inside the table is moved by its fetch. -/
theorem moved0 : ∀ t : Fin grid0.N, ∀ a, (win0_0.xblock (grid0.coords t)).size a = ![64, min 4096 (1000000 - 4096 * t.val)] a := by decide +kernel

/-- The table's entries after the transposing kernel. -/
theorem detiled_apply (d : Dev nD) (V0 : Buf (Elt Ideal) (b0Loc d)) (tab : Buf (Elt Ideal) (b1Loc d)) (h : Detiled d V0 tab)
    (i : S1000000x128.Idx) (hi : (i 1).val < 64) :
    (tab : S1000000x128.Idx → EReal) i = (V0 : S64x1000000.Idx → EReal) (ix2 (i 1).val (i 0).val hi (i 0).isLt) := by
  obtain ⟨t, y, e, h0, h1, hv⟩ := h i
  rw [hv, pay1_apply _ _ (h1 ▸ hi)]
  have hlt : (i 0).val < 1000000 := (i 0).isLt
  have hy : (y 0).val < 4096 := (y 0).isLt
  have hs := moved0 t
  have hm : ∀ a : Fin 2, ((ix2 (y 1).val (y 0).val (h1 ▸ hi) (y 0).isLt : S64x4096.Idx) a).val < (win0_0.xblock (grid0.coords t)).size a := fun a => by
    rw [hs a]
    match a with
    | 0 => exact h1 ▸ hi
    | 1 => show (y 0).val < min 4096 (1000000 - 4096 * t.val); omega
  unfold Pipeline.Window.fill
  rw [dif_pos ((win0_0.moved_iff (grid0.coords t) _).mpr hm)]
  refine congrArg (V0 : S64x1000000.Idx → EReal) (funext fun a => Fin.ext ?_)
  match a with
  | 0 => show win0_0.index t 0 * 64 + 1 * (y 1).val = (i 1).val; rw [coords0 t]; show 0 * 64 + 1 * (y 1).val = _; omega
  | 1 => show win0_0.index t 1 * 4096 + 1 * (y 0).val = (i 0).val; rw [coords0 t]; show t.val * 4096 + 1 * (y 0).val = _; omega

end Cert.Proof

end
-- ==== Proof.EncIdeal.lean ====
/-
  The sinusoidal encoding over the reals, and that the kernel computes it.
-/
module

public import proofs.«01_k».proof.Proof.Enc
public import Idealize.ShloMosaic.PureOps.Ideal.Laws
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The encoding, over the reals -/

/-- The angle of position `p` in column `j`: the position over `10000` to the power `2 ⌊j/2⌋ / 64`. -/
def angle (p j : ℕ) : ℝ := (p : ℝ) / (10000 : ℝ) ^ ((2 * ((j / 2 : ℕ) : ℝ)) / 64)

/-- The encoding's entry: the sine of the angle in an even column, the cosine in an odd one. -/
def encV (p j : ℕ) : EReal := if j % 2 = 0 then ((Real.sin (angle p j) : ℝ) : EReal) else ((Real.cos (angle p j) : ℝ) : EReal)

/-! ## Literals -/

/-- The value of a positive normal word from its exponent and fraction. -/
theorem lit_normal (b : BitVec 32) (ex fr : ℕ) (hn : (b.extractLsb' 31 1 == 1#1) = false) (hex : (b.extractLsb' 23 8).toNat = ex)
    (hfr : (b.extractLsb' 0 23).toNat = fr) (h0 : ex ≠ 0) (h1 : ex ≠ 255) :
    Ideal.ofBits .f32 b = (((2 ^ 23 + fr : ℕ) * (2 : ℝ) ^ ((ex : ℤ) - 127 - 23) : ℝ) : EReal) := by
  unfold Ideal.ofBits Ideal.ieee
  simp only [Nat.reduceAdd, hn, hex, hfr]
  rw [if_neg (by norm_num; exact h1), if_neg h0]
  norm_num
/-- The word for 10000. -/
theorem lit_tenk : Ideal.ofBits .f32 0x461C4000#32 = ((10000 : ℝ) : EReal) := by
  rw [lit_normal _ 140 1851392 (by decide) (by decide) (by decide) (by decide) (by decide)]; norm_num
/-- The word for 1/32. -/
theorem lit_step : Ideal.ofBits .f32 0x3D000000#32 = ((1 / 32 : ℝ) : EReal) := by
  rw [lit_normal _ 122 0 (by decide) (by decide) (by decide) (by decide) (by decide)]; norm_num
/-- The word for 2. -/
theorem lit_two : Ideal.ofBits .f32 0x40000000#32 = ((2 : ℝ) : EReal) := by
  rw [lit_normal _ 128 0 (by decide) (by decide) (by decide) (by decide) (by decide)]; norm_num
/-- The word for 64. -/
theorem lit_width : Ideal.ofBits .f32 0x42800000#32 = ((64 : ℝ) : EReal) := by
  rw [lit_normal _ 133 0 (by decide) (by decide) (by decide) (by decide) (by decide)]; norm_num

/-- A word below `2^31` read signed. -/
theorem toInt_small (n : ℕ) (h : n < 2 ^ 31) : (BitVec.ofNat 32 n).toInt = (n : ℤ) := by
  rw [BitVec.toInt_eq_toNat_of_lt (by rw [BitVec.toNat_ofNat]; omega), BitVec.toNat_ofNat]
  congr 1; omega

/-! ## The kernel's columns -/

/-- The halved column of the kernel, for a column's word. -/
def halved (w : BitVec 32) : BitVec 32 :=
  Scalar.select (IntOp.andi (IntOp.cmpi .ne (IntOp.subi ((IntOp.cmpi .sgt w 0#32).setWidth 32) ((IntOp.cmpi .slt w 0#32).setWidth 32))
      (Scalar.subi (Scalar.extui (Scalar.cmpi .sgt 2#32 0#32)) (Scalar.extui (Scalar.cmpi .slt 2#32 0#32))))
    (IntOp.cmpi .ne (IntOp.remsi .vector w 2#32) 0#32)) (IntOp.subi (IntOp.divsi .vector w 2#32) 1#32) (IntOp.divsi .vector w 2#32)

/-- The kernel's halving of a column number rounds down. -/
theorem halved_eq : ∀ j : Fin 64, (halved (BitVec.ofNat 32 j.val)).toInt = ((j.val / 2 : ℕ) : ℤ) := by decide

/-- The kernel's test for an even column, for a column's word. -/
def isEven (w : BitVec 32) : BitVec 1 :=
  let c := Scalar.select (Scalar.cmpi .eq 2#32 0#32) 1#32 2#32
  let r := IntOp.remsi .vector w c
  IntOp.cmpi .eq (Scalar.select (IntOp.andi (IntOp.xori (IntOp.cmpi .slt r 0#32) (Scalar.cmpi .slt c 0#32)) (IntOp.cmpi .ne r 0#32)) (IntOp.addi r c) r) 0#32

/-- The kernel's test of a column number is true on even columns alone. -/
theorem isEven_eq : ∀ j : Fin 64, isEven (BitVec.ofNat 32 j.val) = if j.val % 2 = 0 then 1#1 else 0#1 := by decide

/-! ## The kernel's encoding -/

/-- The kernel's angle. -/
theorem angle_kernel (z : S200x64.Idx) : k1_pay2 (F := Ideal) z = ((angle (z 0).val (z 1).val : ℝ) : EReal) := by
  have hj := halved_eq ⟨(z 1).val, (z 1).isLt⟩
  have hp := toInt_small (z 0).val (lt_trans (z 0).isLt (by decide))
  have e : k1_pay2 (F := Ideal) z = Ideal.div (((BitVec.ofNat 32 (z 0).val).toInt : ℝ) : EReal)
      (Ideal.exp ((((halved (BitVec.ofNat 32 (z 1).val)).toInt : ℝ) : EReal) * Ideal.ofBits .f32 0x3D000000#32 * Ideal.log (Ideal.ofBits .f32 0x461C4000#32))) := by
    rw [← iota_single_apply .tc S200x64 32 0 iota_S200x64_d0_w32 z, ← iota_single_apply .tc S200x64 32 1 iota_S200x64_d1_w32 z]
    rfl
  rw [e, hj, hp, lit_step, lit_tenk]
  show Ideal.div _ (Ideal.exp (_ * _ * (if (10000 : ℝ) ≤ 0 then ⊥ else ((Real.log 10000 : ℝ) : EReal)))) = _
  rw [if_neg (by norm_num), ← EReal.coe_mul, ← EReal.coe_mul]
  show Ideal.div _ ((Real.exp _ : ℝ) : EReal) = _
  rw [Ideal.div_coe (Real.exp_pos _).ne', ← EReal.coe_mul]
  congr 1
  unfold angle
  rw [Real.rpow_def_of_pos (by norm_num : (0 : ℝ) < 10000), mul_one_div]
  have ht : (((((z 1).val / 2 : ℕ) : ℤ) : ℝ)) * (1 / 32) * Real.log 10000 = Real.log 10000 * (2 * (((z 1).val / 2 : ℕ) : ℝ) / 64) := by
    rw [Int.cast_natCast]; ring
  exact congrArg (fun t => _ / Real.exp t) ht

/-- The kernel's encoding is the encoding. -/
theorem enc_kernel (z : S200x64.Idx) : enc (F := Ideal) z = encV (z 0).val (z 1).val := by
  have hj := isEven_eq ⟨(z 1).val, (z 1).isLt⟩
  have e : enc (F := Ideal) z = Scalar.select (isEven (BitVec.ofNat 32 (z 1).val)) (Ideal.sin (k1_pay2 (F := Ideal) z)) (Ideal.cos (k1_pay2 (F := Ideal) z)) := by
    rw [← iota_single_apply .tc S200x64 32 1 iota_S200x64_d1_w32 z]
    rfl
  rw [e, hj, angle_kernel]
  unfold encV
  by_cases h : (z 1).val % 2 = 0
  · rw [if_pos h, if_pos h]; rfl
  · rw [if_neg h, if_neg h]; rfl

end Cert.Proof

end
-- ==== Proof.ValueKernel.lean ====
/-
  What the kernel computes over the reals.
-/
module

public import proofs.«01_k».proof.Proof.Run
public import proofs.«01_k».proof.Proof.TableIdeal
public import proofs.«01_k».proof.Proof.EncIdeal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The problem's result -/

/-- The embedding lookup plus the sinusoidal encoding. -/
def lookup (x : S4096x200.Idx → BitVec 32) (W : S1000000x64.Idx → EReal) : S4096x200x64.Idx → EReal := fun i =>
  if h : (x (ix2 (i 0).val (i 1).val (i 0).isLt (i 1).isLt)).toNat < 1000000 then
    W (ix2 (x (ix2 (i 0).val (i 1).val (i 0).isLt (i 1).isLt)).toNat (i 2).val h (i 2).isLt) + encV (i 1).val (i 2).val
  else 0

/-! ## What the kernel leaves -/

variable (m : (ℓ : Loc nD τ sig) → Buf (Elt Ideal) ℓ) (d : Dev nD)

/-- The transposed table read at a column and a row. -/
theorem trW_apply (a b : ℕ) (ha : a < 64) (hb : b < 1000000) :
    (trW (F := Ideal) m d : S64x1000000.Idx → EReal) (ix2 a b ha hb) = (m (a1Loc d) : S1000000x64.Idx → EReal) (ix2 b a hb ha) :=
  transpose_apply (s := S1000000x64) (t := S64x1000000) [1, 0] _ _ _ (ix2 b a hb ha) (fun k => match k with | 0 => rfl | 1 => rfl)

/-- The flat indices read at a batch entry's place. -/
theorem flatX_apply (u : S819200.Idx) (a b : ℕ) (ha : a < 4096) (hb : b < 200) (h : (u 0).val = a * 200 + b) :
    flatX m d u = (m (a0Loc d) : S4096x200.Idx → BitVec 32) (ix2 a b ha hb) := by
  unfold flatX
  refine congrArg (m (a0Loc d) : S4096x200.Idx → BitVec 32) (Shape.reshapeEquiv_eq_of_rowMajor _ ?_)
  refine (Shape.rowMajor_val_two _).trans (Eq.trans ?_ (Shape.rowMajor_val_one _).symm)
  exact h.symm

/-- The flat encoding read at a position's column. -/
theorem flatE_apply (z : S12800.Idx) (a b : ℕ) (ha : a < 200) (hb : b < 64) (h : (z 0).val = a * 64 + b) :
    flatE (F := Ideal) z = encV a b := by
  unfold flatE
  refine Eq.trans (congrArg (enc (F := Ideal)) (Shape.reshapeEquiv_eq_of_rowMajor (y := (ix2 a b ha hb : S200x64.Idx)) _ ?_)) (enc_kernel _)
  refine (Shape.rowMajor_val_two _).trans (Eq.trans ?_ (Shape.rowMajor_val_one _).symm)
  exact h.symm

/-- An output array of the kernel is the problem's result, in the kernel's two-axis shape. -/
theorem shaped_right (hpre : PreOK m) (g : S819200x64.Idx → EReal) (hg : Right (F := Ideal) m d Finset.univ g) :
    shaped (F := Ideal) g = lookup (m (a0Loc d)) (m (a1Loc d)) := by
  funext i
  have i0 : (i 0).val < 4096 := (i 0).isLt
  have i1 : (i 1).val < 200 := (i 1).isLt
  have i2 : (i 2).val < 64 := (i 2).isLt
  have e : (Shape.reshapeEquiv shapeCasts_S819200x64_S4096x200x64 i : S819200x64.Idx)
      = ix2 ((i 0).val * 200 + (i 1).val) (i 2).val (by omega) i2 := by
    refine Shape.reshapeEquiv_eq_of_rowMajor _ ?_
    refine (Shape.rowMajor_val_two _).trans (Eq.trans ?_ (Shape.rowMajor_val_three _).symm)
    rfl
  have hu : (i 0).val * 200 + (i 1).val < 819200 := by omega
  have hxv : flatX m d (ix1 ((i 0).val * 200 + (i 1).val) hu) = (m (a0Loc d) : S4096x200.Idx → BitVec 32) (ix2 (i 0).val (i 1).val i0 i1) :=
    flatX_apply m d _ _ _ _ _ rfl
  have hr : ((m (a0Loc d) : S4096x200.Idx → BitVec 32) (ix2 (i 0).val (i 1).val i0 i1)).toNat < 1000000 := hxv ▸ hpre d _
  obtain ⟨tab, ht, hE⟩ := hg (ix2 ((i 0).val * 200 + (i 1).val) (i 2).val (by omega) i2) (Finset.mem_univ _)
  have hv := hE (ix1 ((i 0).val * 200 + (i 1).val) hu) (ix2 _ (i 2).val hr (lt_trans i2 (by decide)))
    (ix1 ((i 1).val * 64 + (i 2).val) (by omega)) rfl (congrArg BitVec.toNat hxv.symm) rfl
    (show (i 1).val * 64 + (i 2).val = ((i 0).val * 200 + (i 1).val) % 200 * 64 + (i 2).val by omega)
  unfold shaped
  rw [e, hv, flatE_apply _ (i 1).val (i 2).val i1 i2 rfl]
  unfold lookup
  rw [dif_pos hr]
  exact congrArg (· + encV (i 1).val (i 2).val) ((detiled_apply d _ tab ht _ i2).trans (trW_apply m d _ _ _ _))

/-- The kernel computes the problem's result. -/
theorem value_kernel (ρ : Dev nD → PrngReg) (hpre : PreOK m) :
    θ_run (Cert.KernelIdeal.defs (F := Ideal)) (Cert.KernelIdeal.threads (F := Ideal)) ⟨m, fun _ => 0, ρ⟩ fun r => ∀ c : Dev nD,
      r.2.mem (b6Loc c) = (lookup (m (a0Loc c)) (m (a1Loc c)) : Buf (Elt Ideal) (b6Loc c)) ∧ r.2.mem (a0Loc c) = m (a0Loc c) ∧ r.2.mem (a1Loc c) = m (a1Loc c) :=
  (θ_run (Cert.KernelIdeal.defs (F := Ideal)) _ _).mono (fun r h c => by
    obtain ⟨h0, h1, g, hg, h6⟩ := h.1 c
    exact ⟨h6.trans (shaped_right m c hpre g hg), h0, h1⟩) (run_main (F := Ideal) m ρ hpre)

end Cert.Proof

end
-- ==== Proof.EncRef.lean ====
/-
  The reference computes the sinusoidal encoding.
-/
module

public import proofs.«01_k».proof.Proof.EncIdeal
public import proofs.«01_k».proof.Proof.Gen.ReferenceIdeal.Run

@[expose] public section

noncomputable section

namespace Cert.Proof

open Cert.ReferenceIdeal Cert.ReferenceIdeal.Gen

open Idealize.ShloMosaic

/-! ## The reference's terms -/

/-- The reference's angles, one for each position and pair of columns. -/
def angR : S200x32.Idx → EReal :=
  Host.divf (F := Ideal) (φ := .f32) (broadcastInDim S200x32 ![0, 1] bcast_S200x1_S200x32_0_1 (broadcastInDim S200x1 ![0] bcast_S200_S200x1_0 (sitofp .f32 (iotaInDim S200 32 0))))
    (broadcastInDim S200x32 ![0, 1] bcast_S1x32_S200x32_0_1 (broadcastInDim S1x32 ![1] bcast_S32_S1x32_1
      (Host.powf (broadcastInDim S32 ![] bcast_S_S32 (constant S_ .f32 0x461C4000#32))
        (Host.divf (mulf (broadcastInDim S32 ![] bcast_S_S32 (constant S_ .f32 0x40000000#32)) (sitofp .f32 (iotaInDim S32 32 0))) (broadcastInDim S32 ![] bcast_S_S32 (constant S_ .f32 0x42800000#32))))))

/-- The reference's sines and cosines, side by side. -/
def pairR : S200x32x2.Idx → EReal :=
  concatenate S200x32x2 2 [⟨S200x32x1, broadcastInDim S200x32x1 ![0, 1] bcast_S200x32_S200x32x1_0_1 (Host.sin (F := Ideal) (φ := .f32) angR)⟩,
    ⟨S200x32x1, broadcastInDim S200x32x1 ![0, 1] bcast_S200x32_S200x32x1_0_1 (Host.cos (F := Ideal) (φ := .f32) angR)⟩] concatenates_S200x32x1_S200x32x1_S200x32x2_d2

/-- The reference's encoding. -/
def encR : S200x64.Idx → EReal := shapeCast _ pairR shapeCasts_S200x32x2_S200x64

/-! ## Read at an index -/

/-- The reference's angles, at a position and a pair of columns. -/
theorem angR_apply (z : S200x32.Idx) (j : ℕ) (hj : j / 2 = (z 1).val) : angR z = ((angle (z 0).val j : ℝ) : EReal) := by
  have hp := toInt_small (z 0).val (lt_trans (z 0).isLt (by decide))
  have hk := toInt_small (z 1).val (lt_trans (z 1).isLt (by decide))
  have e : angR z = Ideal.div (((BitVec.ofNat 32 (z 0).val).toInt : ℝ) : EReal)
      (Ideal.pow (Ideal.ofBits .f32 0x461C4000#32) (Ideal.div (Ideal.ofBits .f32 0x40000000#32 * (((BitVec.ofNat 32 (z 1).val).toInt : ℝ) : EReal)) (Ideal.ofBits .f32 0x42800000#32))) := by
    unfold angR
    refine congrArg₂ Ideal.div ?_ ?_
    · refine (broadcastInDim_apply (t := S200x32) ![0, 1] bcast_S200x1_S200x32_0_1 _ z (ix2 (z 0).val 0 (z 0).isLt Nat.one_pos) (fun a => ?_)).trans ?_
      · match a with
        | 0 => rfl
        | 1 => rfl
      refine (broadcastInDim_apply (t := S200x1) ![0] bcast_S200_S200x1_0 _ _ (ix1 (z 0).val (z 0).isLt) (fun a => ?_)).trans rfl
      match a with
      | 0 => rfl
    · refine (broadcastInDim_apply (t := S200x32) ![0, 1] bcast_S1x32_S200x32_0_1 _ z (ix2 0 (z 1).val Nat.one_pos (z 1).isLt) (fun a => ?_)).trans ?_
      · match a with
        | 0 => rfl
        | 1 => rfl
      refine (broadcastInDim_apply (t := S1x32) ![1] bcast_S32_S1x32_1 _ _ (ix1 (z 1).val (z 1).isLt) (fun a => ?_)).trans rfl
      match a with
      | 0 => rfl
  rw [e, hp, hk, lit_tenk, lit_two, lit_width, Ideal.div_coe (by norm_num), ← EReal.coe_mul, ← EReal.coe_mul]
  show Ideal.div _ ((((10000 : ℝ) ^ ((2 : ℝ) * (((z 1).val : ℤ) : ℝ) * (1 / 64)) : ℝ)) : EReal) = _
  rw [Ideal.div_coe (Real.rpow_pos_of_pos (by norm_num) _).ne', ← EReal.coe_mul]
  congr 1
  unfold angle
  rw [hj, mul_one_div]
  have ht : (2 : ℝ) * (((z 1).val : ℤ) : ℝ) * (1 / 64) = 2 * ((z 1).val : ℝ) / 64 := by rw [Int.cast_natCast]; ring
  exact congrArg (fun t : ℝ => _ / (10000 : ℝ) ^ t) ht

/-- The first of each pair in the reference is the sine of the angle. -/
theorem pairR_even (z : S200x32x2.Idx) (j : ℕ) (hj : j / 2 = (z 1).val) (h : (z 2).val = 0) : pairR z = ((Real.sin (angle (z 0).val j) : ℝ) : EReal) := by
  refine (concatenate_pair_apply_left (s₁ := S200x32x1) (s₂ := S200x32x1) (t := S200x32x2) 2 _ _ _ z rfl
    (ix3 (z 0).val (z 1).val 0 (z 0).isLt (z 1).isLt Nat.one_pos) (fun b => match b with | 0 => rfl | 1 => rfl | 2 => h.symm)).trans ?_
  refine (broadcastInDim_apply (t := S200x32x1) ![0, 1] bcast_S200x32_S200x32x1_0_1 _ _ (ix2 (z 0).val (z 1).val (z 0).isLt (z 1).isLt) (fun a => ?_)).trans ?_
  · match a with
    | 0 => rfl
    | 1 => rfl
  exact congrArg Ideal.sin (angR_apply _ j hj)

/-- The second of each pair in the reference is the cosine of the angle. -/
theorem pairR_odd (z : S200x32x2.Idx) (j : ℕ) (hj : j / 2 = (z 1).val) (h : (z 2).val = 1) : pairR z = ((Real.cos (angle (z 0).val j) : ℝ) : EReal) := by
  refine (concatenate_pair_apply_right (s₁ := S200x32x1) (s₂ := S200x32x1) (t := S200x32x2) 2 _ _ _ z rfl rfl
    (ix3 (z 0).val (z 1).val 0 (z 0).isLt (z 1).isLt Nat.one_pos) (fun b hb => ?_) h.symm).trans ?_
  · match b with
    | 0 => rfl
    | 1 => rfl
    | 2 => exact absurd rfl hb
  refine (broadcastInDim_apply (t := S200x32x1) ![0, 1] bcast_S200x32_S200x32x1_0_1 _ _ (ix2 (z 0).val (z 1).val (z 0).isLt (z 1).isLt) (fun a => ?_)).trans ?_
  · match a with
    | 0 => rfl
    | 1 => rfl
  exact congrArg Ideal.cos (angR_apply _ j hj)

/-- The reference's encoding is the encoding. -/
theorem encR_apply (z : S200x64.Idx) : encR z = encV (z 0).val (z 1).val := by
  have h1 : (z 1).val < 64 := (z 1).isLt
  have e : encR z = pairR (ix3 (z 0).val ((z 1).val / 2) ((z 1).val % 2) (z 0).isLt (by omega) (Nat.mod_lt _ (by decide))) := by
    refine shapeCast_apply (s := S200x32x2) (t := S200x64) _ _ _ _ ?_
    refine (Shape.rowMajor_val_three _).trans (Eq.trans ?_ (Shape.rowMajor_val_two _).symm)
    show ((z 0).val * 32 + (z 1).val / 2) * 2 + (z 1).val % 2 = (z 0).val * 64 + (z 1).val
    omega
  rw [e]
  unfold encV
  by_cases h : (z 1).val % 2 = 0
  · rw [if_pos h]; exact pairR_even _ _ rfl h
  · rw [if_neg h]; exact pairR_odd _ _ rfl (by show (z 1).val % 2 = 1; omega)

end Cert.Proof

end
-- ==== Proof.TakeRef.lean ====
/-
  The reference takes the rows that the indices name.
-/
module

public import proofs.«01_k».proof.Proof.Setup
public import proofs.«01_k».proof.Proof.Gen.ReferenceIdeal.Run
public import Idealize.ShloMosaic.Lib.ReduceAll
public import Idealize.ShloMosaic.Lib.ValueIdxCore
public import Idealize.ShloMosaic.Lib.Pipeline.Value

@[expose] public section

noncomputable section

namespace Cert.Proof

open Cert.ReferenceIdeal Cert.ReferenceIdeal.Gen

open Idealize.ShloMosaic

/-! ## The reference's terms -/

variable (x : S4096x200.Idx → BitVec 32) (W : S1000000x64.Idx → EReal)

/-- The indices, negative ones wrapped, as a column of one. -/
def wrapR : S4096x200x1.Idx → BitVec 32 :=
  broadcastInDim S4096x200x1 ![0, 1] bcast_S4096x200_S4096x200x1_0_1 (select (cmpi .slt x (broadcastInDim S4096x200 ![] bcast_S_S4096x200 (constantI S_ 32 0#32)))
    (addi x (broadcastInDim S4096x200 ![] bcast_S_S4096x200 (constantI S_ 32 1000000#32))) x)

/-- Whether a wrapped index names a row. -/
def insideR : S4096x200.Idx → BitVec 1 :=
  Host.reduce IntOp.andi (andi (cmpi .sge (wrapR x) (broadcastInDim S4096x200x1 ![] bcast_S_S4096x200x1 (constantI S_ 32 0#32)))
    (cmpi .sle (wrapR x) (broadcastInDim S4096x200x1 ![0, 1, 2] bcast_S1x1x1_S4096x200x1_0_1_2 (broadcastInDim S1x1x1 ![2] bcast_S1_S1x1x1_2 (constantI S1 32 999999#32)))))
    (constantI S_ 1 1#1) reducesTo_S4096x200x1_S4096x200_d2 h_S_

/-- The gathered rows. -/
def rowsR : S4096x200x64.Idx → EReal := Host.gather gather_S1000000x64_S4096x200x1_S4096x200x64_2_0_n_n_0_2_164 W (wrapR x)

/-- The embedding, with the fill value where an index names no row. -/
def embR : S4096x200x64.Idx → EReal :=
  select (broadcastInDim S4096x200x64 ![0, 1] bcast_S4096x200_S4096x200x64_0_1 (insideR x)) (rowsR x W)
    (broadcastInDim S4096x200x64 ![] bcast_S_S4096x200x64 (constant (F := Ideal) S_ .f32 0x7FC00000#32))

/-! ## Read at an index, under the precondition -/

/-- What the index operations give for a word below the number of rows. -/
theorem word_inside (w : BitVec 32) (h : w.toNat < 1000000) :
    Scalar.select (IntOp.cmpi .slt w 0#32) (IntOp.addi w 1000000#32) w = w ∧ IntOp.cmpi .sge w 0#32 = 1#1 ∧ IntOp.cmpi .sle w 999999#32 = 1#1
      ∧ w.toInt.toNat = w.toNat := by
  have hi : w.toInt = (w.toNat : ℤ) := BitVec.toInt_eq_toNat_of_lt (by omega)
  have e0 : (0#32 : BitVec 32).toInt = 0 := by decide
  have e1 : (999999#32 : BitVec 32).toInt = 999999 := by decide
  have hs : w.slt 0#32 = false := by rw [BitVec.slt_eq_decide, e0, hi]; exact decide_eq_false (by omega)
  have hge : (0#32 : BitVec 32).sle w = true := by rw [BitVec.sle_eq_decide, e0, hi]; exact decide_eq_true (by omega)
  have hle : w.sle 999999#32 = true := by rw [BitVec.sle_eq_decide, e1, hi]; exact decide_eq_true (by omega)
  refine ⟨?_, ?_, ?_, by rw [hi]; rfl⟩
  · show Scalar.select (BitVec.ofBool (w.slt 0#32)) _ w = w
    rw [hs]; rfl
  · show BitVec.ofBool ((0#32 : BitVec 32).sle w) = 1#1
    rw [hge]; rfl
  · show BitVec.ofBool (w.sle 999999#32) = 1#1
    rw [hle]; rfl

/-- A selection takes its first branch where the condition holds. -/
theorem select_one {s : Shape} {α : Type} (c : IVec s 1) (a b : s.Idx → α) (i : s.Idx) (h : c i = 1#1) : select c a b i = a i := by
  unfold select; rw [h]; rfl

variable (hx : ∀ i, (x i).toNat < 1000000)

include hx in
/-- The reference's wrapping of negative indices leaves an index within range alone. -/
theorem wrapR_apply (y : S4096x200x1.Idx) : wrapR x y = x (ix2 (y 0).val (y 1).val (y 0).isLt (y 1).isLt) := by
  refine (broadcastInDim_apply (t := S4096x200x1) ![0, 1] bcast_S4096x200_S4096x200x1_0_1 _ y (ix2 (y 0).val (y 1).val (y 0).isLt (y 1).isLt) (fun a => ?_)).trans ?_
  · match a with
    | 0 => rfl
    | 1 => rfl
  exact (word_inside _ (hx _)).1

include hx in
/-- The reference's test that an index is within range holds. -/
theorem insideR_apply (i : S4096x200.Idx) : insideR x i = 1#1 := by
  refine Host.reduce_andi_one _ _ _ _ _ rfl fun y => ?_
  have h := word_inside _ (hx (ix2 (y 0).val (y 1).val (y 0).isLt (y 1).isLt))
  show IntOp.andi (IntOp.cmpi .sge (wrapR x y) 0#32) (IntOp.cmpi .sle (wrapR x y) 999999#32) = 1#1
  rw [wrapR_apply x hx y, h.2.1, h.2.2.1]; rfl

/-- The gather's row: the start index's word, read signed and clamped. -/
theorem rowsR_apply (i : S4096x200x64.Idx) (t : S1000000x64.Idx)
    (h0 : (t 0).val = min (wrapR x (ix3 (i 0).val (i 1).val 0 (i 0).isLt (i 1).isLt Nat.one_pos)).toInt.toNat 999999) (h1 : (t 1).val = (i 2).val) :
    rowsR x W i = W t := by
  refine congrArg W (funext fun a => Fin.ext ?_)
  show (gather_S1000000x64_S4096x200x1_S4096x200x64_2_0_n_n_0_2_164).start i (wrapR x) a + (gather_S1000000x64_S4096x200x1_S4096x200x64_2_0_n_n_0_2_164).batchCoord i a
    + (gather_S1000000x64_S4096x200x1_S4096x200x64_2_0_n_n_0_2_164).offCoord i a = (t a).val
  rw [GatherDims.batchCoord_eq_zero _ _ _ List.not_mem_nil]
  match a with
  | 0 =>
    rw [GatherDims.offCoord_eq_zero _ _ _ (fun h => ((GatherDims.mem_sKept _ _).mp h).1 (List.mem_singleton.mpr rfl)), h0]
    unfold GatherDims.start
    have hm : (0 : Fin S1000000x64.rank) ∈ (gather_S1000000x64_S4096x200x1_S4096x200x64_2_0_n_n_0_2_164).startIndexMap := List.mem_singleton.mpr rfl
    rw [dif_pos hm]
    have hsi : (gather_S1000000x64_S4096x200x1_S4096x200x64_2_0_n_n_0_2_164).siIdx i ⟨List.idxOf (0 : Fin 2) (gather_S1000000x64_S4096x200x1_S4096x200x64_2_0_n_n_0_2_164).startIndexMap,
        List.idxOf_lt_length_iff.2 (List.mem_singleton.mpr rfl)⟩ = ix3 (i 0).val (i 1).val 0 (i 0).isLt (i 1).isLt Nat.one_pos := by
      funext b; refine Fin.ext ?_
      match b with
      | 0 => rfl
      | 1 => rfl
      | 2 => rfl
    rw [hsi]; rfl
  | 1 =>
    rw [h1]
    unfold GatherDims.start
    rw [dif_neg (by decide)]
    show 0 + 0 + (i 2).val = (i 2).val
    omega

include hx in
/-- The embedding at an index is the entry of the row that the index names. -/
theorem embR_apply (i : S4096x200x64.Idx) (t : S1000000x64.Idx)
    (h0 : (t 0).val = (x (ix2 (i 0).val (i 1).val (i 0).isLt (i 1).isLt)).toNat) (h1 : (t 1).val = (i 2).val) : embR x W i = W t := by
  have hb : broadcastInDim S4096x200x64 ![0, 1] bcast_S4096x200_S4096x200x64_0_1 (insideR x) i = 1#1 :=
    (broadcastInDim_apply (t := S4096x200x64) ![0, 1] bcast_S4096x200_S4096x200x64_0_1 _ i (ix2 (i 0).val (i 1).val (i 0).isLt (i 1).isLt) (fun a => match a with | 0 => rfl | 1 => rfl)).trans
      (insideR_apply x hx _)
  have hw := word_inside _ (hx (ix2 (i 0).val (i 1).val (i 0).isLt (i 1).isLt))
  have hl := hx (ix2 (i 0).val (i 1).val (i 0).isLt (i 1).isLt)
  unfold embR
  refine (select_one _ _ _ i hb).trans ?_
  refine rowsR_apply x W i t ?_ h1
  have hc : min (x (ix2 (i 0).val (i 1).val (i 0).isLt (i 1).isLt)).toInt.toNat 999999 = (x (ix2 (i 0).val (i 1).val (i 0).isLt (i 1).isLt)).toNat := by
    rw [hw.2.2.2]; omega
  exact (h0.trans hc.symm).trans (congrArg (fun w : BitVec 32 => min w.toInt.toNat 999999) (wrapR_apply x hx (ix3 (i 0).val (i 1).val 0 (i 0).isLt (i 1).isLt Nat.one_pos)).symm)

end Cert.Proof

end
-- ==== Proof.ValueRef.lean ====
/-
  What the reference computes over the reals.
-/
module

public import proofs.«01_k».proof.Proof.ValueKernel
public import proofs.«01_k».proof.Proof.EncRef
public import proofs.«01_k».proof.Proof.TakeRef

@[expose] public section

noncomputable section

namespace Cert.Proof

open Cert.ReferenceIdeal Cert.ReferenceIdeal.Gen

open Idealize.ShloMosaic

/-- The reference's result is the problem's, under the precondition. -/
theorem ref_value (x : S4096x200.Idx → BitVec 32) (W : S1000000x64.Idx → EReal) (hx : ∀ i, (x i).toNat < 1000000) :
    addf (F := Ideal) (φ := .f32) (embR x W) (broadcastInDim S4096x200x64 ![0, 1, 2] bcast_S1x200x64_S4096x200x64_0_1_2 (broadcastInDim S1x200x64 ![1, 2] bcast_S200x64_S1x200x64_1_2 encR))
      = lookup x W := by
  funext i
  have hr := hx (ix2 (i 0).val (i 1).val (i 0).isLt (i 1).isLt)
  have hE := embR_apply x W hx i (ix2 _ (i 2).val hr (i 2).isLt) rfl rfl
  have hS : broadcastInDim S4096x200x64 ![0, 1, 2] bcast_S1x200x64_S4096x200x64_0_1_2 (broadcastInDim S1x200x64 ![1, 2] bcast_S200x64_S1x200x64_1_2 encR) i
      = encV (i 1).val (i 2).val := by
    refine (broadcastInDim_apply (t := S4096x200x64) ![0, 1, 2] bcast_S1x200x64_S4096x200x64_0_1_2 _ i (ix3 0 (i 1).val (i 2).val Nat.one_pos (i 1).isLt (i 2).isLt) (fun a => ?_)).trans ?_
    · match a with
      | 0 => rfl
      | 1 => rfl
      | 2 => rfl
    refine (broadcastInDim_apply (t := S1x200x64) ![1, 2] bcast_S200x64_S1x200x64_1_2 _ _ (ix2 (i 1).val (i 2).val (i 1).isLt (i 2).isLt) (fun a => ?_)).trans ?_
    · match a with
      | 0 => rfl
      | 1 => rfl
    exact encR_apply _
  unfold lookup
  rw [dif_pos hr]
  exact congrArg₂ (· + ·) hE hS

/-- The reference computes the problem's result, from indices that name rows. -/
theorem value_reference (m : (ℓ : Loc nD τ sig) → Buf (Elt Ideal) ℓ) (ρ : Dev nD → PrngReg)
    (hx : ∀ (c : Dev nD) (i : S4096x200.Idx), ((m ((c.tc : Thread nD τ).loc main_arg0) : S4096x200.Idx → BitVec 32) i).toNat < 1000000) :
    θ_run (defs (F := Ideal)) (onTc (τ := τ) (main (F := Ideal))) ⟨m, fun _ => 0, ρ⟩ fun r => ∀ c : Dev nD,
      r.2.mem ((c.tc : Thread nD τ).loc main_v22) = (lookup (m ((c.tc : Thread nD τ).loc main_arg0)) (m ((c.tc : Thread nD τ).loc main_arg1)) : Buf (Elt Ideal) ((c.tc : Thread nD τ).loc main_v22))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run (defs (F := Ideal)) _ _).mono (fun r h c => ⟨(h c).1.trans (ref_value _ _ (hx c)), (h c).2.1, (h c).2.2⟩)
    (Cert.ReferenceIdeal.Value.run (F := Ideal) m ρ)

end Cert.Proof

end
-- ==== Proof.Algebra.lean ====
/-
  The value claim.
-/
module

public import proofs.«01_k».proof.Proof.Frames
public import proofs.«01_k».proof.Proof.ValueRef
public import proofs.«01_k».proof.Proof.ValueKernel

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Over the reals, kernel and reference leave the same result. -/
theorem algebraic_eq : Cert.algebraic_KernelIdeal_ReferenceIdeal := by
  intro m g m' g' hpre hagree
  refine ⟨fun c => lookup (m (a0Loc c)) (m (a1Loc c)), value_kernel m g (ok_of_pre m hpre), ?_⟩
  refine (θ_run (Cert.ReferenceIdeal.defs (F := Ideal)) _ _).mono (fun r h c => ⟨(h c).1.trans ?_, (h c).2⟩)
    (value_reference m' g' fun c i => ?_)
  · have e := congrFun (hagree c).1 i
    exact e ▸ rows_of_pre _ _ (hpre c) i
  · exact congrArg₂ lookup (hagree c).1 (hagree c).2

end Cert.Proof

end
-- ==== Proof.lean ====
module

public import proofs.«01_k».proof.Defs
public import proofs.«01_k».proof.Proof.Frames
public import proofs.«01_k».proof.Proof.RefFrame
public import proofs.«01_k».proof.Proof.Algebra

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_in_table.Gen.facts,
    frame_Kernel, frame_KernelIdeal, frame_ReferenceIdeal, frame_ReferenceIdeal_pre, trivial, algebraic_eq⟩

end Cert.Proof

end
